-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S768x224x224 : Shape := ⟨3, ![768, 224, 224]⟩
abbrev S768x112x112 : Shape := ⟨3, ![768, 112, 112]⟩
abbrev S112x224 : Shape := ⟨2, ![112, 224]⟩
abbrev S56x112 : Shape := ⟨2, ![56, 112]⟩
abbrev S_ : Shape := ⟨0, ![]⟩
abbrev S16 : Shape := ⟨1, ![16]⟩
abbrev S1x112x224 : Shape := ⟨3, ![1, 112, 224]⟩
abbrev S1x56x112 : Shape := ⟨3, ![1, 56, 112]⟩
abbrev S1x16 : Shape := ⟨2, ![1, 16]⟩
abbrev S8x96x112x112 : Shape := ⟨4, ![8, 96, 112, 112]⟩

abbrev nBuf : Table → Nat
  | .hbm => 4
  | .local .scVector .vmem => 4
  | _ => 0

abbrev bufTy : (tb : Table) → Fin (nBuf tb) → BufTy
  | .hbm, ⟨0, _⟩ => ⟨S8x96x224x224, .f32⟩
  | .hbm, ⟨1, _⟩ => ⟨S768x224x224, .f32⟩
  | .hbm, ⟨2, _⟩ => ⟨S768x112x112, .f32⟩
  | .hbm, ⟨3, _⟩ => ⟨S8x96x112x112, .f32⟩
  | .local .scVector .vmem, ⟨0, _⟩ => ⟨S112x224, .f32⟩
  | .local .scVector .vmem, ⟨1, _⟩ => ⟨S112x224, .f32⟩
  | .local .scVector .vmem, ⟨2, _⟩ => ⟨S56x112, .f32⟩
  | .local .scVector .vmem, ⟨3, _⟩ => ⟨S56x112, .f32⟩
  | _, _ => ⟨S8x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_7 : BitVec 32 := 0#32
  let c0_i32_8 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c112_i32 : BitVec 32 := 112#32
  let c0_i32_11 : BitVec 32 := 0#32
  ![v2.toNat, 112, 0]
@[reducible] def k0_t1_loop : Scf.Loop 32 :=
  let c0_i32_15 : BitVec 32 := 0#32
  let c24_i32_16 : BitVec 32 := 24#32
  let v42 : BitVec 32 := Scalar.addi c0_i32_15 c24_i32_16
  let c1_i32_17 : BitVec 32 := 1#32
  ⟨c0_i32_15, v42, c1_i32_17⟩
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_26 : BitVec 32 := 0#32
  let c0_i32_27 : BitVec 32 := 0#32
  ![v2.toNat, 0, 0]
def k0_cond1 (k0_t1 : Fin k0_t1_loop.trips) : BitVec 1 :=
  let c0_i32_15 : BitVec 32 := 0#32
  let c1_i32_17 : BitVec 32 := 1#32
  let arg12 : BitVec 32 := Scf.iv c0_i32_15 c1_i32_17 k0_t1
  let c0_i32_30 : BitVec 32 := 0#32
  let v56 : BitVec 1 := Scalar.cmpi .sgt arg12 c0_i32_30
  let v57 : BitVec 32 := Scalar.extui v56
  let c0_i32_31 : BitVec 32 := 0#32
  let v58 : BitVec 1 := Scalar.cmpi .ne v57 c0_i32_31
  v58

def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_57 : BitVec 32 := 0#32
  let c0_i32_58 : BitVec 32 := 0#32
  ![v2.toNat, 0, 0]
@[reducible] def k0_t2_loop : Scf.Loop 32 :=
  let c0_i32_32 : BitVec 32 := 0#32
  let c56_i32_33 : BitVec 32 := 56#32
  let v59 : BitVec 32 := Scalar.addi c0_i32_32 c56_i32_33
  let c1_i32_34 : BitVec 32 := 1#32
  ⟨c0_i32_32, v59, c1_i32_34⟩
def k0_off5 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v95 : Index := Scalar.indexCast v83
  let c0 : Index := 0#32
  ![v95.toNat, 0]
def k0_off6 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v104 : Index := Scalar.indexCast v83
  let c16 : Index := 16#32
  ![v104.toNat, 16]
def k0_off7 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v113 : Index := Scalar.indexCast v83
  let c32 : Index := 32#32
  ![v113.toNat, 32]
def k0_off8 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v122 : Index := Scalar.indexCast v83
  let c48 : Index := 48#32
  ![v122.toNat, 48]
def k0_off9 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v131 : Index := Scalar.indexCast v83
  let c64 : Index := 64#32
  ![v131.toNat, 64]
def k0_off10 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v140 : Index := Scalar.indexCast v83
  let c80 : Index := 80#32
  ![v140.toNat, 80]

def k0_chk1 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) : Prop :=
  (∀ a x, ((![v85, v7] : Fin 2 → IVec S16 32) a x).toNat < S112x224.size a) ∧
  (∀ a x, ((![v85, v21] : Fin 2 → IVec S16 32) a x).toNat < S112x224.size a) ∧
  (∀ a x, ((![v85, v9] : Fin 2 → IVec S16 32) a x).toNat < S112x224.size a) ∧
  (∀ a x, ((![v85, v23] : Fin 2 → IVec S16 32) a x).toNat < S112x224.size a) ∧
  (∀ a x, ((![v85, v11] : Fin 2 → IVec S16 32) a x).toNat < S112x224.size a) ∧
  (∀ a x, ((![v85, v25] : Fin 2 → IVec S16 32) a x).toNat < S112x224.size a) ∧
  (∀ a x, ((![v85, v13] : Fin 2 → IVec S16 32) a x).toNat < S112x224.size a) ∧
  (∀ a x, ((![v85, v27] : Fin 2 → IVec S16 32) a x).toNat < S112x224.size a) ∧
  (∀ a x, ((![v85, v15] : Fin 2 → IVec S16 32) a x).toNat < S112x224.size a) ∧
  (∀ a x, ((![v85, v29] : Fin 2 → IVec S16 32) a x).toNat < S112x224.size a) ∧
  (∀ a x, ((![v85, v17] : Fin 2 → IVec S16 32) a x).toNat < S112x224.size a) ∧
  (∀ a x, ((![v85, v31] : Fin 2 → IVec S16 32) a x).toNat < S112x224.size a) ∧
  (∀ a x, ((![v85, v19] : Fin 2 → IVec S16 32) a x).toNat < S112x224.size a) ∧
  (∀ a x, ((![v85, v33] : Fin 2 → IVec S16 32) a x).toNat < S112x224.size a)
theorem k0_idx1_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v7] : Fin 2 → IVec S16 32) a x).toNat < S112x224.size a := fun v7 v9 v11 v13 v15 v17 v19 v21 v23 v25 v27 v29 v31 v33 v85 k0_hw1 => k0_hw1.1
theorem k0_idx2_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v21] : Fin 2 → IVec S16 32) a x).toNat < S112x224.size a := fun v7 v9 v11 v13 v15 v17 v19 v21 v23 v25 v27 v29 v31 v33 v85 k0_hw1 => k0_hw1.2.1
theorem k0_idx5_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v9] : Fin 2 → IVec S16 32) a x).toNat < S112x224.size a := fun v7 v9 v11 v13 v15 v17 v19 v21 v23 v25 v27 v29 v31 v33 v85 k0_hw1 => k0_hw1.2.2.1
theorem k0_idx6_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v23] : Fin 2 → IVec S16 32) a x).toNat < S112x224.size a := fun v7 v9 v11 v13 v15 v17 v19 v21 v23 v25 v27 v29 v31 v33 v85 k0_hw1 => k0_hw1.2.2.2.1
theorem k0_idx9_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v11] : Fin 2 → IVec S16 32) a x).toNat < S112x224.size a := fun v7 v9 v11 v13 v15 v17 v19 v21 v23 v25 v27 v29 v31 v33 v85 k0_hw1 => k0_hw1.2.2.2.2.1
theorem k0_idx10_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v25] : Fin 2 → IVec S16 32) a x).toNat < S112x224.size a := fun v7 v9 v11 v13 v15 v17 v19 v21 v23 v25 v27 v29 v31 v33 v85 k0_hw1 => k0_hw1.2.2.2.2.2.1
theorem k0_idx13_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v13] : Fin 2 → IVec S16 32) a x).toNat < S112x224.size a := fun v7 v9 v11 v13 v15 v17 v19 v21 v23 v25 v27 v29 v31 v33 v85 k0_hw1 => k0_hw1.2.2.2.2.2.2.1
theorem k0_idx14_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v27] : Fin 2 → IVec S16 32) a x).toNat < S112x224.size a := fun v7 v9 v11 v13 v15 v17 v19 v21 v23 v25 v27 v29 v31 v33 v85 k0_hw1 => k0_hw1.2.2.2.2.2.2.2.1
theorem k0_idx17_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v15] : Fin 2 → IVec S16 32) a x).toNat < S112x224.size a := fun v7 v9 v11 v13 v15 v17 v19 v21 v23 v25 v27 v29 v31 v33 v85 k0_hw1 => k0_hw1.2.2.2.2.2.2.2.2.1
theorem k0_idx18_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v29] : Fin 2 → IVec S16 32) a x).toNat < S112x224.size a := fun v7 v9 v11 v13 v15 v17 v19 v21 v23 v25 v27 v29 v31 v33 v85 k0_hw1 => k0_hw1.2.2.2.2.2.2.2.2.2.1
theorem k0_idx21_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v17] : Fin 2 → IVec S16 32) a x).toNat < S112x224.size a := fun v7 v9 v11 v13 v15 v17 v19 v21 v23 v25 v27 v29 v31 v33 v85 k0_hw1 => k0_hw1.2.2.2.2.2.2.2.2.2.2.1
theorem k0_idx22_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v31] : Fin 2 → IVec S16 32) a x).toNat < S112x224.size a := fun v7 v9 v11 v13 v15 v17 v19 v21 v23 v25 v27 v29 v31 v33 v85 k0_hw1 => k0_hw1.2.2.2.2.2.2.2.2.2.2.2.1
theorem k0_idx25_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v19] : Fin 2 → IVec S16 32) a x).toNat < S112x224.size a := fun v7 v9 v11 v13 v15 v17 v19 v21 v23 v25 v27 v29 v31 v33 v85 k0_hw1 => k0_hw1.2.2.2.2.2.2.2.2.2.2.2.2.1
theorem k0_idx26_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw1 : k0_chk1 v7 v9 v11 v13 v15 v17 v19 v21 v23 v25 v27 v29 v31 v33 v85), ∀ a x, ((![v85, v33] : Fin 2 → IVec S16 32) a x).toNat < S112x224.size a := fun v7 v9 v11 v13 v15 v17 v19 v21 v23 v25 v27 v29 v31 v33 v85 k0_hw1 => k0_hw1.2.2.2.2.2.2.2.2.2.2.2.2.2

def k0_chk2 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) : Prop :=
  (∀ a x, ((![v87, v7] : Fin 2 → IVec S16 32) a x).toNat < S112x224.size a) ∧
  (∀ a x, ((![v87, v21] : Fin 2 → IVec S16 32) a x).toNat < S112x224.size a) ∧
  (∀ a x, ((![v87, v9] : Fin 2 → IVec S16 32) a x).toNat < S112x224.size a) ∧
  (∀ a x, ((![v87, v23] : Fin 2 → IVec S16 32) a x).toNat < S112x224.size a) ∧
  (∀ a x, ((![v87, v11] : Fin 2 → IVec S16 32) a x).toNat < S112x224.size a) ∧
  (∀ a x, ((![v87, v25] : Fin 2 → IVec S16 32) a x).toNat < S112x224.size a) ∧
  (∀ a x, ((![v87, v13] : Fin 2 → IVec S16 32) a x).toNat < S112x224.size a) ∧
  (∀ a x, ((![v87, v27] : Fin 2 → IVec S16 32) a x).toNat < S112x224.size a) ∧
  (∀ a x, ((![v87, v15] : Fin 2 → IVec S16 32) a x).toNat < S112x224.size a) ∧
  (∀ a x, ((![v87, v29] : Fin 2 → IVec S16 32) a x).toNat < S112x224.size a) ∧
  (∀ a x, ((![v87, v17] : Fin 2 → IVec S16 32) a x).toNat < S112x224.size a) ∧
  (∀ a x, ((![v87, v31] : Fin 2 → IVec S16 32) a x).toNat < S112x224.size a) ∧
  (∀ a x, ((![v87, v19] : Fin 2 → IVec S16 32) a x).toNat < S112x224.size a) ∧
  (∀ a x, ((![v87, v33] : Fin 2 → IVec S16 32) a x).toNat < S112x224.size a)
theorem k0_idx3_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v7] : Fin 2 → IVec S16 32) a x).toNat < S112x224.size a := fun v7 v9 v11 v13 v15 v17 v19 v21 v23 v25 v27 v29 v31 v33 v87 k0_hw2 => k0_hw2.1
theorem k0_idx4_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v21] : Fin 2 → IVec S16 32) a x).toNat < S112x224.size a := fun v7 v9 v11 v13 v15 v17 v19 v21 v23 v25 v27 v29 v31 v33 v87 k0_hw2 => k0_hw2.2.1
theorem k0_idx7_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v9] : Fin 2 → IVec S16 32) a x).toNat < S112x224.size a := fun v7 v9 v11 v13 v15 v17 v19 v21 v23 v25 v27 v29 v31 v33 v87 k0_hw2 => k0_hw2.2.2.1
theorem k0_idx8_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v23] : Fin 2 → IVec S16 32) a x).toNat < S112x224.size a := fun v7 v9 v11 v13 v15 v17 v19 v21 v23 v25 v27 v29 v31 v33 v87 k0_hw2 => k0_hw2.2.2.2.1
theorem k0_idx11_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v11] : Fin 2 → IVec S16 32) a x).toNat < S112x224.size a := fun v7 v9 v11 v13 v15 v17 v19 v21 v23 v25 v27 v29 v31 v33 v87 k0_hw2 => k0_hw2.2.2.2.2.1
theorem k0_idx12_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v25] : Fin 2 → IVec S16 32) a x).toNat < S112x224.size a := fun v7 v9 v11 v13 v15 v17 v19 v21 v23 v25 v27 v29 v31 v33 v87 k0_hw2 => k0_hw2.2.2.2.2.2.1
theorem k0_idx15_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v13] : Fin 2 → IVec S16 32) a x).toNat < S112x224.size a := fun v7 v9 v11 v13 v15 v17 v19 v21 v23 v25 v27 v29 v31 v33 v87 k0_hw2 => k0_hw2.2.2.2.2.2.2.1
theorem k0_idx16_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v27] : Fin 2 → IVec S16 32) a x).toNat < S112x224.size a := fun v7 v9 v11 v13 v15 v17 v19 v21 v23 v25 v27 v29 v31 v33 v87 k0_hw2 => k0_hw2.2.2.2.2.2.2.2.1
theorem k0_idx19_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v15] : Fin 2 → IVec S16 32) a x).toNat < S112x224.size a := fun v7 v9 v11 v13 v15 v17 v19 v21 v23 v25 v27 v29 v31 v33 v87 k0_hw2 => k0_hw2.2.2.2.2.2.2.2.2.1
theorem k0_idx20_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v29] : Fin 2 → IVec S16 32) a x).toNat < S112x224.size a := fun v7 v9 v11 v13 v15 v17 v19 v21 v23 v25 v27 v29 v31 v33 v87 k0_hw2 => k0_hw2.2.2.2.2.2.2.2.2.2.1
theorem k0_idx23_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v17] : Fin 2 → IVec S16 32) a x).toNat < S112x224.size a := fun v7 v9 v11 v13 v15 v17 v19 v21 v23 v25 v27 v29 v31 v33 v87 k0_hw2 => k0_hw2.2.2.2.2.2.2.2.2.2.2.1
theorem k0_idx24_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v31] : Fin 2 → IVec S16 32) a x).toNat < S112x224.size a := fun v7 v9 v11 v13 v15 v17 v19 v21 v23 v25 v27 v29 v31 v33 v87 k0_hw2 => k0_hw2.2.2.2.2.2.2.2.2.2.2.2.1
theorem k0_idx27_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v19] : Fin 2 → IVec S16 32) a x).toNat < S112x224.size a := fun v7 v9 v11 v13 v15 v17 v19 v21 v23 v25 v27 v29 v31 v33 v87 k0_hw2 => k0_hw2.2.2.2.2.2.2.2.2.2.2.2.2.1
theorem k0_idx28_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw2 : k0_chk2 v7 v9 v11 v13 v15 v17 v19 v21 v23 v25 v27 v29 v31 v33 v87), ∀ a x, ((![v87, v33] : Fin 2 → IVec S16 32) a x).toNat < S112x224.size a := fun v7 v9 v11 v13 v15 v17 v19 v21 v23 v25 v27 v29 v31 v33 v87 k0_hw2 => k0_hw2.2.2.2.2.2.2.2.2.2.2.2.2.2
def k0_off11 (k0_t2 : Fin k0_t2_loop.trips) : Fin 2 → Nat :=
  let c0_i32_58 : BitVec 32 := 0#32
  let c0_i32_32 : BitVec 32 := 0#32
  let c1_i32_34 : BitVec 32 := 1#32
  let arg13 : BitVec 32 := Scf.iv c0_i32_32 c1_i32_34 k0_t2
  let c1_i32_57 : BitVec 32 := 1#32
  let v82 : BitVec 32 := Scalar.muli arg13 c1_i32_57
  let v83 : BitVec 32 := Scalar.addi c0_i32_58 v82
  let v149 : Index := Scalar.indexCast v83
  let c96 : Index := 96#32
  ![v149.toNat, 96]
def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_15 : BitVec 32 := 0#32
  let c1_i32_17 : BitVec 32 := 1#32
  let arg12 : BitVec 32 := Scf.iv c0_i32_15 c1_i32_17 k0_t1
  let v51 : BitVec 32 := Scalar.addi v2 arg12
  let c0_i32_36 : BitVec 32 := 0#32
  let c0_i32_37 : BitVec 32 := 0#32
  ![v51.toNat, 0, 0]
def k0_cond2 (k0_t1 : Fin k0_t1_loop.trips) : BitVec 1 :=
  let c0_i32_15 : BitVec 32 := 0#32
  let c1_i32_17 : BitVec 32 := 1#32
  let arg12 : BitVec 32 := Scf.iv c0_i32_15 c1_i32_17 k0_t1
  let c23_i32 : BitVec 32 := 23#32
  let v64 : BitVec 1 := Scalar.cmpi .slt arg12 c23_i32
  let v65 : BitVec 32 := Scalar.extui v64
  let c0_i32_40 : BitVec 32 := 0#32
  let v66 : BitVec 1 := Scalar.cmpi .ne v65 c0_i32_40
  v66

def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_15 : BitVec 32 := 0#32
  let c1_i32_17 : BitVec 32 := 1#32
  let arg12 : BitVec 32 := Scf.iv c0_i32_15 c1_i32_17 k0_t1
  let v51 : BitVec 32 := Scalar.addi v2 arg12
  let c1_i32_57 : BitVec 32 := 1#32
  let v82 : BitVec 32 := Scalar.addi v51 c1_i32_57
  let c0_i32_58 : BitVec 32 := 0#32
  let c0_i32_59 : BitVec 32 := 0#32
  ![v82.toNat, 0, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_41 : BitVec 32 := 0#32
  let c0_i32_42 : BitVec 32 := 0#32
  ![v2.toNat, 0, 0]
def k0_cond3 (k0_t1 : Fin k0_t1_loop.trips) : BitVec 1 :=
  let c0_i32_15 : BitVec 32 := 0#32
  let c1_i32_17 : BitVec 32 := 1#32
  let arg12 : BitVec 32 := Scf.iv c0_i32_15 c1_i32_17 k0_t1
  let c0_i32_45 : BitVec 32 := 0#32
  let v71 : BitVec 1 := Scalar.cmpi .sgt arg12 c0_i32_45
  let v72 : BitVec 32 := Scalar.extui v71
  let c0_i32_46 : BitVec 32 := 0#32
  let v73 : BitVec 1 := Scalar.cmpi .ne v72 c0_i32_46
  v73

def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_57 : BitVec 32 := 0#32
  let c0_i32_58 : BitVec 32 := 0#32
  ![v2.toNat, 0, 0]
@[reducible] def k0_t3_loop : Scf.Loop 32 :=
  let c0_i32_47 : BitVec 32 := 0#32
  let c56_i32_48 : BitVec 32 := 56#32
  let v74 : BitVec 32 := Scalar.addi c0_i32_47 c56_i32_48
  let c1_i32_49 : BitVec 32 := 1#32
  ⟨c0_i32_47, v74, c1_i32_49⟩
def k0_off16 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v95 : Index := Scalar.indexCast v83
  let c0 : Index := 0#32
  ![v95.toNat, 0]
def k0_off17 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v104 : Index := Scalar.indexCast v83
  let c16 : Index := 16#32
  ![v104.toNat, 16]
def k0_off18 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v113 : Index := Scalar.indexCast v83
  let c32 : Index := 32#32
  ![v113.toNat, 32]
def k0_off19 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v122 : Index := Scalar.indexCast v83
  let c48 : Index := 48#32
  ![v122.toNat, 48]
def k0_off20 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v131 : Index := Scalar.indexCast v83
  let c64 : Index := 64#32
  ![v131.toNat, 64]
def k0_off21 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v140 : Index := Scalar.indexCast v83
  let c80 : Index := 80#32
  ![v140.toNat, 80]

def k0_chk3 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) : Prop :=
  (∀ a x, ((![v85, v7] : Fin 2 → IVec S16 32) a x).toNat < S112x224.size a) ∧
  (∀ a x, ((![v85, v21] : Fin 2 → IVec S16 32) a x).toNat < S112x224.size a) ∧
  (∀ a x, ((![v85, v9] : Fin 2 → IVec S16 32) a x).toNat < S112x224.size a) ∧
  (∀ a x, ((![v85, v23] : Fin 2 → IVec S16 32) a x).toNat < S112x224.size a) ∧
  (∀ a x, ((![v85, v11] : Fin 2 → IVec S16 32) a x).toNat < S112x224.size a) ∧
  (∀ a x, ((![v85, v25] : Fin 2 → IVec S16 32) a x).toNat < S112x224.size a) ∧
  (∀ a x, ((![v85, v13] : Fin 2 → IVec S16 32) a x).toNat < S112x224.size a) ∧
  (∀ a x, ((![v85, v27] : Fin 2 → IVec S16 32) a x).toNat < S112x224.size a) ∧
  (∀ a x, ((![v85, v15] : Fin 2 → IVec S16 32) a x).toNat < S112x224.size a) ∧
  (∀ a x, ((![v85, v29] : Fin 2 → IVec S16 32) a x).toNat < S112x224.size a) ∧
  (∀ a x, ((![v85, v17] : Fin 2 → IVec S16 32) a x).toNat < S112x224.size a) ∧
  (∀ a x, ((![v85, v31] : Fin 2 → IVec S16 32) a x).toNat < S112x224.size a) ∧
  (∀ a x, ((![v85, v19] : Fin 2 → IVec S16 32) a x).toNat < S112x224.size a) ∧
  (∀ a x, ((![v85, v33] : Fin 2 → IVec S16 32) a x).toNat < S112x224.size a)
theorem k0_idx29_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v7] : Fin 2 → IVec S16 32) a x).toNat < S112x224.size a := fun v7 v9 v11 v13 v15 v17 v19 v21 v23 v25 v27 v29 v31 v33 v85 k0_hw3 => k0_hw3.1
theorem k0_idx30_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v21] : Fin 2 → IVec S16 32) a x).toNat < S112x224.size a := fun v7 v9 v11 v13 v15 v17 v19 v21 v23 v25 v27 v29 v31 v33 v85 k0_hw3 => k0_hw3.2.1
theorem k0_idx33_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v9] : Fin 2 → IVec S16 32) a x).toNat < S112x224.size a := fun v7 v9 v11 v13 v15 v17 v19 v21 v23 v25 v27 v29 v31 v33 v85 k0_hw3 => k0_hw3.2.2.1
theorem k0_idx34_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v23] : Fin 2 → IVec S16 32) a x).toNat < S112x224.size a := fun v7 v9 v11 v13 v15 v17 v19 v21 v23 v25 v27 v29 v31 v33 v85 k0_hw3 => k0_hw3.2.2.2.1
theorem k0_idx37_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v11] : Fin 2 → IVec S16 32) a x).toNat < S112x224.size a := fun v7 v9 v11 v13 v15 v17 v19 v21 v23 v25 v27 v29 v31 v33 v85 k0_hw3 => k0_hw3.2.2.2.2.1
theorem k0_idx38_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v25] : Fin 2 → IVec S16 32) a x).toNat < S112x224.size a := fun v7 v9 v11 v13 v15 v17 v19 v21 v23 v25 v27 v29 v31 v33 v85 k0_hw3 => k0_hw3.2.2.2.2.2.1
theorem k0_idx41_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v13] : Fin 2 → IVec S16 32) a x).toNat < S112x224.size a := fun v7 v9 v11 v13 v15 v17 v19 v21 v23 v25 v27 v29 v31 v33 v85 k0_hw3 => k0_hw3.2.2.2.2.2.2.1
theorem k0_idx42_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v27] : Fin 2 → IVec S16 32) a x).toNat < S112x224.size a := fun v7 v9 v11 v13 v15 v17 v19 v21 v23 v25 v27 v29 v31 v33 v85 k0_hw3 => k0_hw3.2.2.2.2.2.2.2.1
theorem k0_idx45_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v15] : Fin 2 → IVec S16 32) a x).toNat < S112x224.size a := fun v7 v9 v11 v13 v15 v17 v19 v21 v23 v25 v27 v29 v31 v33 v85 k0_hw3 => k0_hw3.2.2.2.2.2.2.2.2.1
theorem k0_idx46_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v29] : Fin 2 → IVec S16 32) a x).toNat < S112x224.size a := fun v7 v9 v11 v13 v15 v17 v19 v21 v23 v25 v27 v29 v31 v33 v85 k0_hw3 => k0_hw3.2.2.2.2.2.2.2.2.2.1
theorem k0_idx49_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v17] : Fin 2 → IVec S16 32) a x).toNat < S112x224.size a := fun v7 v9 v11 v13 v15 v17 v19 v21 v23 v25 v27 v29 v31 v33 v85 k0_hw3 => k0_hw3.2.2.2.2.2.2.2.2.2.2.1
theorem k0_idx50_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v31] : Fin 2 → IVec S16 32) a x).toNat < S112x224.size a := fun v7 v9 v11 v13 v15 v17 v19 v21 v23 v25 v27 v29 v31 v33 v85 k0_hw3 => k0_hw3.2.2.2.2.2.2.2.2.2.2.2.1
theorem k0_idx53_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v19] : Fin 2 → IVec S16 32) a x).toNat < S112x224.size a := fun v7 v9 v11 v13 v15 v17 v19 v21 v23 v25 v27 v29 v31 v33 v85 k0_hw3 => k0_hw3.2.2.2.2.2.2.2.2.2.2.2.2.1
theorem k0_idx54_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v85 : IVec S16 32) (k0_hw3 : k0_chk3 v7 v9 v11 v13 v15 v17 v19 v21 v23 v25 v27 v29 v31 v33 v85), ∀ a x, ((![v85, v33] : Fin 2 → IVec S16 32) a x).toNat < S112x224.size a := fun v7 v9 v11 v13 v15 v17 v19 v21 v23 v25 v27 v29 v31 v33 v85 k0_hw3 => k0_hw3.2.2.2.2.2.2.2.2.2.2.2.2.2

def k0_chk4 (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) : Prop :=
  (∀ a x, ((![v87, v7] : Fin 2 → IVec S16 32) a x).toNat < S112x224.size a) ∧
  (∀ a x, ((![v87, v21] : Fin 2 → IVec S16 32) a x).toNat < S112x224.size a) ∧
  (∀ a x, ((![v87, v9] : Fin 2 → IVec S16 32) a x).toNat < S112x224.size a) ∧
  (∀ a x, ((![v87, v23] : Fin 2 → IVec S16 32) a x).toNat < S112x224.size a) ∧
  (∀ a x, ((![v87, v11] : Fin 2 → IVec S16 32) a x).toNat < S112x224.size a) ∧
  (∀ a x, ((![v87, v25] : Fin 2 → IVec S16 32) a x).toNat < S112x224.size a) ∧
  (∀ a x, ((![v87, v13] : Fin 2 → IVec S16 32) a x).toNat < S112x224.size a) ∧
  (∀ a x, ((![v87, v27] : Fin 2 → IVec S16 32) a x).toNat < S112x224.size a) ∧
  (∀ a x, ((![v87, v15] : Fin 2 → IVec S16 32) a x).toNat < S112x224.size a) ∧
  (∀ a x, ((![v87, v29] : Fin 2 → IVec S16 32) a x).toNat < S112x224.size a) ∧
  (∀ a x, ((![v87, v17] : Fin 2 → IVec S16 32) a x).toNat < S112x224.size a) ∧
  (∀ a x, ((![v87, v31] : Fin 2 → IVec S16 32) a x).toNat < S112x224.size a) ∧
  (∀ a x, ((![v87, v19] : Fin 2 → IVec S16 32) a x).toNat < S112x224.size a) ∧
  (∀ a x, ((![v87, v33] : Fin 2 → IVec S16 32) a x).toNat < S112x224.size a)
theorem k0_idx31_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v7] : Fin 2 → IVec S16 32) a x).toNat < S112x224.size a := fun v7 v9 v11 v13 v15 v17 v19 v21 v23 v25 v27 v29 v31 v33 v87 k0_hw4 => k0_hw4.1
theorem k0_idx32_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v21] : Fin 2 → IVec S16 32) a x).toNat < S112x224.size a := fun v7 v9 v11 v13 v15 v17 v19 v21 v23 v25 v27 v29 v31 v33 v87 k0_hw4 => k0_hw4.2.1
theorem k0_idx35_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v9] : Fin 2 → IVec S16 32) a x).toNat < S112x224.size a := fun v7 v9 v11 v13 v15 v17 v19 v21 v23 v25 v27 v29 v31 v33 v87 k0_hw4 => k0_hw4.2.2.1
theorem k0_idx36_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v23] : Fin 2 → IVec S16 32) a x).toNat < S112x224.size a := fun v7 v9 v11 v13 v15 v17 v19 v21 v23 v25 v27 v29 v31 v33 v87 k0_hw4 => k0_hw4.2.2.2.1
theorem k0_idx39_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v11] : Fin 2 → IVec S16 32) a x).toNat < S112x224.size a := fun v7 v9 v11 v13 v15 v17 v19 v21 v23 v25 v27 v29 v31 v33 v87 k0_hw4 => k0_hw4.2.2.2.2.1
theorem k0_idx40_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v25] : Fin 2 → IVec S16 32) a x).toNat < S112x224.size a := fun v7 v9 v11 v13 v15 v17 v19 v21 v23 v25 v27 v29 v31 v33 v87 k0_hw4 => k0_hw4.2.2.2.2.2.1
theorem k0_idx43_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v13] : Fin 2 → IVec S16 32) a x).toNat < S112x224.size a := fun v7 v9 v11 v13 v15 v17 v19 v21 v23 v25 v27 v29 v31 v33 v87 k0_hw4 => k0_hw4.2.2.2.2.2.2.1
theorem k0_idx44_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v27] : Fin 2 → IVec S16 32) a x).toNat < S112x224.size a := fun v7 v9 v11 v13 v15 v17 v19 v21 v23 v25 v27 v29 v31 v33 v87 k0_hw4 => k0_hw4.2.2.2.2.2.2.2.1
theorem k0_idx47_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v15] : Fin 2 → IVec S16 32) a x).toNat < S112x224.size a := fun v7 v9 v11 v13 v15 v17 v19 v21 v23 v25 v27 v29 v31 v33 v87 k0_hw4 => k0_hw4.2.2.2.2.2.2.2.2.1
theorem k0_idx48_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v29] : Fin 2 → IVec S16 32) a x).toNat < S112x224.size a := fun v7 v9 v11 v13 v15 v17 v19 v21 v23 v25 v27 v29 v31 v33 v87 k0_hw4 => k0_hw4.2.2.2.2.2.2.2.2.2.1
theorem k0_idx51_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v17] : Fin 2 → IVec S16 32) a x).toNat < S112x224.size a := fun v7 v9 v11 v13 v15 v17 v19 v21 v23 v25 v27 v29 v31 v33 v87 k0_hw4 => k0_hw4.2.2.2.2.2.2.2.2.2.2.1
theorem k0_idx52_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v31] : Fin 2 → IVec S16 32) a x).toNat < S112x224.size a := fun v7 v9 v11 v13 v15 v17 v19 v21 v23 v25 v27 v29 v31 v33 v87 k0_hw4 => k0_hw4.2.2.2.2.2.2.2.2.2.2.2.1
theorem k0_idx55_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v19] : Fin 2 → IVec S16 32) a x).toNat < S112x224.size a := fun v7 v9 v11 v13 v15 v17 v19 v21 v23 v25 v27 v29 v31 v33 v87 k0_hw4 => k0_hw4.2.2.2.2.2.2.2.2.2.2.2.2.1
theorem k0_idx56_inb : ∀ (v7 : IVec S16 32) (v9 : IVec S16 32) (v11 : IVec S16 32) (v13 : IVec S16 32) (v15 : IVec S16 32) (v17 : IVec S16 32) (v19 : IVec S16 32) (v21 : IVec S16 32) (v23 : IVec S16 32) (v25 : IVec S16 32) (v27 : IVec S16 32) (v29 : IVec S16 32) (v31 : IVec S16 32) (v33 : IVec S16 32) (v87 : IVec S16 32) (k0_hw4 : k0_chk4 v7 v9 v11 v13 v15 v17 v19 v21 v23 v25 v27 v29 v31 v33 v87), ∀ a x, ((![v87, v33] : Fin 2 → IVec S16 32) a x).toNat < S112x224.size a := fun v7 v9 v11 v13 v15 v17 v19 v21 v23 v25 v27 v29 v31 v33 v87 k0_hw4 => k0_hw4.2.2.2.2.2.2.2.2.2.2.2.2.2
def k0_off22 (k0_t3 : Fin k0_t3_loop.trips) : Fin 2 → Nat :=
  let c0_i32_58 : BitVec 32 := 0#32
  let c0_i32_47 : BitVec 32 := 0#32
  let c1_i32_49 : BitVec 32 := 1#32
  let arg13 : BitVec 32 := Scf.iv c0_i32_47 c1_i32_49 k0_t3
  let c1_i32_57 : BitVec 32 := 1#32
  let v82 : BitVec 32 := Scalar.muli arg13 c1_i32_57
  let v83 : BitVec 32 := Scalar.addi c0_i32_58 v82
  let v149 : Index := Scalar.indexCast v83
  let c96 : Index := 96#32
  ![v149.toNat, 96]
def k0_off23 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_15 : BitVec 32 := 0#32
  let c1_i32_17 : BitVec 32 := 1#32
  let arg12 : BitVec 32 := Scf.iv c0_i32_15 c1_i32_17 k0_t1
  let v51 : BitVec 32 := Scalar.addi v2 arg12
  let c56_i32_51 : BitVec 32 := 56#32
  let c0_i32_52 : BitVec 32 := 0#32
  ![v51.toNat, 56, 0]
def k0_cond4 (k0_t1 : Fin k0_t1_loop.trips) : BitVec 1 :=
  let c0_i32_15 : BitVec 32 := 0#32
  let c1_i32_17 : BitVec 32 := 1#32
  let arg12 : BitVec 32 := Scf.iv c0_i32_15 c1_i32_17 k0_t1
  let c23_i32_55 : BitVec 32 := 23#32
  let v79 : BitVec 1 := Scalar.cmpi .slt arg12 c23_i32_55
  let v80 : BitVec 32 := Scalar.extui v79
  let c0_i32_56 : BitVec 32 := 0#32
  let v81 : BitVec 1 := Scalar.cmpi .ne v80 c0_i32_56
  v81

def k0_off24 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_15 : BitVec 32 := 0#32
  let c1_i32_17 : BitVec 32 := 1#32
  let arg12 : BitVec 32 := Scf.iv c0_i32_15 c1_i32_17 k0_t1
  let v51 : BitVec 32 := Scalar.addi v2 arg12
  let c1_i32_57 : BitVec 32 := 1#32
  let v82 : BitVec 32 := Scalar.addi v51 c1_i32_57
  let c112_i32_58 : BitVec 32 := 112#32
  let c0_i32_59 : BitVec 32 := 0#32
  ![v82.toNat, 112, 0]
def k0_off25 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_19 : BitVec 32 := 0#32
  let c0_i32_20 : BitVec 32 := 0#32
  ![v2.toNat, 0, 0]
def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c56_i32 : BitVec 32 := 56#32
  let c0_i32_23 : BitVec 32 := 0#32
  ![v2.toNat, 56, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x96x224x224 : Shape := ⟨4, ![8, 96, 224, 224]⟩
abbrev S_ : Shape := ⟨0, ![]⟩
abbrev S8x96x112x112 : Shape := ⟨4, ![8, 96, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S_, .f32⟩
  | .hbm, ⟨2, _⟩ => ⟨S_, .f32⟩
  | .hbm, ⟨3, _⟩ => ⟨S8x96x112x112, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Pool.lean ====
/-
  The values of the pooling kernel and the geometry of its copies: what a 2 by 2 maximum pool of a block and of the whole
  array is, which elements the kernel's slices name and what they read, and what its index vectors hold.
-/
module

public import proofs.«01_k».proof.Defs
public import Idealize.ShloMosaic.Lib.ValueLayout
public import Idealize.ShloMosaic.Lib.ValueIdxCore
public import Idealize.ShloMosaic.Lib.Exec.Geometry
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.ValueIdx (ix1 ix2 ix3 ix4)

variable {F : FTy → Type} [FloatOps F]

/-! ## Values -/

/-- The greatest of four numbers, in the order the kernel compares them. -/
def max4 (a b c d : F .f32) : F .f32 := FloatOps.maximumf (FloatOps.maximumf a b) (FloatOps.maximumf c d)

/-- The 2 by 2 pool of half an image: each element the greatest of its window's four. -/
def poolBlk (g : S112x224.Idx → F .f32) : S56x112.Idx → F .f32 := fun i =>
  have h0 : (i 0).val < 56 := (i 0).isLt
  have h1 : (i 1).val < 112 := (i 1).isLt
  max4 (g (ix2 ⟨2 * (i 0).val, by omega⟩ ⟨2 * (i 1).val, by omega⟩)) (g (ix2 ⟨2 * (i 0).val, by omega⟩ ⟨2 * (i 1).val + 1, by omega⟩))
    (g (ix2 ⟨2 * (i 0).val + 1, by omega⟩ ⟨2 * (i 1).val, by omega⟩)) (g (ix2 ⟨2 * (i 0).val + 1, by omega⟩ ⟨2 * (i 1).val + 1, by omega⟩))

/-- The upper (`h = 0`) or lower (`h = 1`) half of image `n`. -/
def inBlk (X : S768x224x224.Idx → F .f32) (n : Fin 768) (h : Fin 2) : S112x224.Idx → F .f32 := fun i =>
  have h0 : (i 0).val < 112 := (i 0).isLt
  X (ix3 n ⟨112 * h.val + (i 0).val, by omega⟩ (i 1))

/-- The 2 by 2 pool of a stack of images. -/
def poolArr (X : S768x224x224.Idx → F .f32) : S768x112x112.Idx → F .f32 := fun i =>
  have h1 : (i 1).val < 112 := (i 1).isLt
  have h2 : (i 2).val < 112 := (i 2).isLt
  max4 (X (ix3 (i 0) ⟨2 * (i 1).val, by omega⟩ ⟨2 * (i 2).val, by omega⟩)) (X (ix3 (i 0) ⟨2 * (i 1).val, by omega⟩ ⟨2 * (i 2).val + 1, by omega⟩))
    (X (ix3 (i 0) ⟨2 * (i 1).val + 1, by omega⟩ ⟨2 * (i 2).val, by omega⟩)) (X (ix3 (i 0) ⟨2 * (i 1).val + 1, by omega⟩ ⟨2 * (i 2).val + 1, by omega⟩))

/-- Pooling half an image gives that half of the pooled image. -/
theorem poolBlk_inBlk (X : S768x224x224.Idx → F .f32) (n : Fin 768) (h : Fin 2) (a : Fin 56) (b : Fin 112) :
    poolBlk (inBlk X n h) (ix2 a b) = poolArr X (ix3 n ⟨56 * h.val + a.val, by omega⟩ b) := by
  have e : ∀ k : ℕ, 112 * h.val + (2 * a.val + k) = 2 * (56 * h.val + a.val) + k := fun k => by omega
  have e0 : 112 * h.val + 2 * a.val = 2 * (56 * h.val + a.val) := e 0
  unfold poolBlk inBlk poolArr
  simp only [ix2, ix3] at *
  congr 1 <;> congr 1 <;> (funext x; refine Fin.cases rfl (fun x => Fin.cases ?_ (fun x => ?_) x) x) <;> first
    | exact Fin.ext e0 | exact Fin.ext (e 1) | exact Fin.cases rfl (fun x => x.elim0) x

/-! ## Slices -/

/-- Half an image of the input, as the kernel's copies name it. -/
abbrev inSl (off : Fin 3 → ℕ) (inb : ∀ a, off a + S1x112x224.size a ≤ S768x224x224.size a) : Memref sig .scVector .hbm S112x224 .f32 :=
  ((Memref.whole main_v0_scv).slice (Rect.unit (s := S768x224x224) off S1x112x224.size inb) (fun _ => rfl)).squeeze S112x224 squeezes_S1x112x224_S112x224

/-- Half an image of the output, as the kernel's copies name it. -/
abbrev outSl (off : Fin 3 → ℕ) (inb : ∀ a, off a + S1x56x112.size a ≤ S768x112x112.size a) : Memref sig .scVector .hbm S56x112 .f32 :=
  ((Memref.whole main_v1_scv).slice (Rect.unit (s := S768x112x112) off S1x56x112.size inb) (fun _ => rfl)).squeeze S56x112 squeezes_S1x56x112_S56x112

/-- The elements of half an image of the input. -/
def inSet (n : ℕ) (h : ℕ) : Finset S768x224x224.Idx := Finset.univ.filter fun i => (i 0).val = n ∧ (i 1).val / 112 = h

/-- The elements of half an image of the output. -/
def outSet (n : ℕ) (h : ℕ) : Finset S768x112x112.Idx := Finset.univ.filter fun i => (i 0).val = n ∧ (i 1).val / 56 = h

/-- The input slice at image `n`, half `h` names that half's elements. -/
theorem inSl_set {off inb} {n h : ℕ} (ho : off = ![n, 112 * h, 0]) : (inSl off inb).view.set = inSet n h := by
  subst ho
  refine (Memref.set_view_squeeze _ _).trans ((View.set_slice_whole _ _).trans (Finset.ext fun i => ?_))
  rw [Rect.mem_set_unit]
  have h1 : (i 1).val < 224 := (i 1).isLt
  have h2 : (i 2).val < 224 := (i 2).isLt
  simp only [inSet, Finset.mem_filter, Finset.mem_univ, true_and]
  constructor
  · intro H
    have a0 : n ≤ (i 0).val ∧ (i 0).val < n + 1 := H 0
    have a1 : 112 * h ≤ (i 1).val ∧ (i 1).val < 112 * h + 112 := H 1
    omega
  · rintro ⟨a, b⟩
    refine Fin.cases ?_ (fun x => Fin.cases ?_ (fun x => Fin.cases ?_ (fun x => x.elim0) x) x)
    · show n ≤ (i 0).val ∧ (i 0).val < n + 1; omega
    · show 112 * h ≤ (i 1).val ∧ (i 1).val < 112 * h + 112; omega
    · show 0 ≤ (i 2).val ∧ (i 2).val < 0 + 224; omega

/-- The output slice at image `n`, half `h` names that half's elements. -/
theorem outSl_set {off inb} {n h : ℕ} (ho : off = ![n, 56 * h, 0]) : (outSl off inb).view.set = outSet n h := by
  subst ho
  refine (Memref.set_view_squeeze _ _).trans ((View.set_slice_whole _ _).trans (Finset.ext fun i => ?_))
  rw [Rect.mem_set_unit]
  have h1 : (i 1).val < 112 := (i 1).isLt
  have h2 : (i 2).val < 112 := (i 2).isLt
  simp only [outSet, Finset.mem_filter, Finset.mem_univ, true_and]
  constructor
  · intro H
    have a0 : n ≤ (i 0).val ∧ (i 0).val < n + 1 := H 0
    have a1 : 56 * h ≤ (i 1).val ∧ (i 1).val < 56 * h + 56 := H 1
    omega
  · rintro ⟨a, b⟩
    refine Fin.cases ?_ (fun x => Fin.cases ?_ (fun x => Fin.cases ?_ (fun x => x.elim0) x) x)
    · show n ≤ (i 0).val ∧ (i 0).val < n + 1; omega
    · show 56 * h ≤ (i 1).val ∧ (i 1).val < 56 * h + 56; omega
    · show 0 ≤ (i 2).val ∧ (i 2).val < 0 + 112; omega

/-- Where the input slice at image `n`, half `h` places row `a`, column `b`. -/
theorem inSl_emb {off inb} (n : Fin 768) (h : Fin 2) (ho : off = ![n.val, 112 * h.val, 0]) (a : Fin 112) (b : Fin 224) :
    (inSl off inb).view.emb (ix2 a b) = (ix3 n ⟨112 * h.val + a.val, by omega⟩ b : S768x224x224.Idx) := by
  subst ho
  show (Rect.unit (s := S768x224x224) ![n.val, 112 * h.val, 0] S1x112x224.size inb).emb
    (Shape.reshapeEquiv squeezes_S1x112x224_S112x224.numel_eq (ix2 a b)) = _
  rw [ValueIdx.reshapeEquiv_ix2_1ab]
  funext x
  refine Fin.ext ?_
  refine Fin.cases ?_ (fun x => Fin.cases ?_ (fun x => Fin.cases ?_ (fun x => x.elim0) x) x) x
  · show n.val + 1 * 0 = n.val; omega
  · show 112 * h.val + 1 * a.val = 112 * h.val + a.val; omega
  · show 0 + 1 * b.val = b.val; omega

/-- Where the output slice at image `n`, half `h` places row `a`, column `b`. -/
theorem outSl_emb {off inb} (n : Fin 768) (h : Fin 2) (ho : off = ![n.val, 56 * h.val, 0]) (a : Fin 56) (b : Fin 112) :
    (outSl off inb).view.emb (ix2 a b) = (ix3 n ⟨56 * h.val + a.val, by omega⟩ b : S768x112x112.Idx) := by
  subst ho
  show (Rect.unit (s := S768x112x112) ![n.val, 56 * h.val, 0] S1x56x112.size inb).emb
    (Shape.reshapeEquiv squeezes_S1x56x112_S56x112.numel_eq (ix2 a b)) = _
  rw [ValueIdx.reshapeEquiv_ix2_1ab]
  funext x
  refine Fin.ext ?_
  refine Fin.cases ?_ (fun x => Fin.cases ?_ (fun x => Fin.cases ?_ (fun x => x.elim0) x) x) x
  · show n.val + 1 * 0 = n.val; omega
  · show 56 * h.val + 1 * a.val = 56 * h.val + a.val; omega
  · show 0 + 1 * b.val = b.val; omega

/-- Reading the input slice gives that half image. -/
theorem inSl_read {off inb} (n : Fin 768) (h : Fin 2) (ho : off = ![n.val, 112 * h.val, 0]) (X : S768x224x224.Idx → F .f32) :
    (inSl off inb).view.read (Elt F) X = inBlk X n h := by
  funext i
  obtain ⟨a, b, rfl⟩ : ∃ a b, i = ix2 a b := ⟨i 0, i 1, ValueIdx.eq_ix2 i⟩
  show X ((inSl off inb).view.emb (ix2 a b)) = _
  rw [inSl_emb n h ho]
  rfl

/-- Writing a pooled half image through the output slice leaves the pooled array's elements there. -/
theorem outSl_write {off inb} (n : Fin 768) (h : Fin 2) (ho : off = ![n.val, 56 * h.val, 0]) (X : S768x224x224.Idx → F .f32)
    (f : S768x112x112.Idx → F .f32) :
    ∀ i ∈ outSet n.val h.val, (outSl off inb).view.write (Elt F) f (poolBlk (inBlk X n h)) Finset.univ i = poolArr X i := by
  intro i hi
  rw [← outSl_set (inb := inb) ho] at hi
  obtain ⟨x, -, rfl⟩ := Finset.mem_map.mp hi
  rw [View.write_emb_of_mem _ _ (Finset.mem_univ x)]
  obtain ⟨a, b, rfl⟩ : ∃ a b, x = ix2 a b := ⟨x 0, x 1, ValueIdx.eq_ix2 x⟩
  rw [outSl_emb n h ho]
  exact poolBlk_inBlk X n h a b

end Cert.Proof.Pool
-- ==== Proof.Setup.lean ====
/-
  The program as the launch theorem reads it, the resource algebra of the proof, and the assertion that a memref's
  elements are held at contents with a property.
-/
module

public import proofs.«01_k».proof.Proof.Pool
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The program's handshake semaphores and buffers are placed as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- Share `q` of a memref's elements is held at contents that, read through the memref, have property `G`. -/
def At {sp : Space} {s : Shape} {e : EltTy} (c : Thread nD τ) (m : Memref sig c.2.kind sp s e) (q : PosShare TreeShare) (G : (s.Idx → Elt F e) → Prop) : sProp 𝕄 :=
  iprop(∃ f, ⌜G (m.view.read (Elt F) f)⌝ ∗ m.view.loc c ↦[m.view.set]{q} f)

end Cert.Proof
-- ==== Proof.Row.lean ====
/-
  One pass of the inner loop, which pools one row of half an image: seven times, four indexed loads of the input block, the
  greatest of the four vectors, and a store of sixteen elements of the output block. The loop's invariant says how much of the
  output block, counted in stores, holds the pooled block already.
-/
module

public import proofs.«01_k».proof.Proof.Setup
public import Idealize.ShloMosaic.Lib.WritesUnit

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The index vectors -/

/-- Lane `x` of the vector holds `2 x + k`. -/
def Col (v : IVec S16 32) (k : ℕ) : Prop := ∀ x : S16.Idx, (v x).toNat = 2 * (x 0).val + k

/-- Every lane of the vector holds `r`. -/
def Row (v : IVec S16 32) (r : ℕ) : Prop := ∀ x : S16.Idx, (v x).toNat = r

/-- Adding a constant to every lane of `2 x + k`. -/
theorem Col.add {v : IVec S16 32} {k : ℕ} (h : Col v k) (n : ℕ) (hk : k + n < 1000) : Col (addi v (broadcast S16 (BitVec.ofNat 32 n))) (k + n) := by
  intro x
  have h0 : (x 0).val < 16 := (x 0).isLt
  have e : (addi v (broadcast S16 (BitVec.ofNat 32 n)) x) = v x + BitVec.ofNat 32 n := rfl
  rw [e, BitVec.toNat_add, h x, BitVec.toNat_ofNat]
  omega

/-- The kernel's first vector holds the even numbers from zero. -/
theorem col_base : Col k0_pay17 0 := by
  intro x
  have h0 : (x 0).val < 16 := (x 0).isLt
  have e : k0_pay17 x = BitVec.ofNat 32 (x 0).val * 2#32 := by
    show iota .scVector S16 32 [0] iota_S16_d0_w32_scVector x * 2#32 = _
    show BitVec.ofNat 32 (0 * 16 + (x 0).val) * 2#32 = _
    rw [Nat.zero_mul, Nat.zero_add]
  rw [e, BitVec.toNat_mul, BitVec.toNat_ofNat]
  simp only [BitVec.toNat_ofNat]
  omega

theorem col_even0 : Col k0_pay18 0 := col_base.add 0 (by omega)
theorem col_even1 : Col k0_pay19 32 := col_base.add 32 (by omega)
theorem col_even2 : Col k0_pay20 64 := col_base.add 64 (by omega)
theorem col_even3 : Col k0_pay21 96 := col_base.add 96 (by omega)
theorem col_even4 : Col k0_pay22 128 := col_base.add 128 (by omega)
theorem col_even5 : Col k0_pay23 160 := col_base.add 160 (by omega)
theorem col_even6 : Col k0_pay24 192 := col_base.add 192 (by omega)
theorem col_odd0 : Col k0_pay25 (0 + 1) := col_even0.add 1 (by omega)
theorem col_odd1 : Col k0_pay26 (32 + 1) := col_even1.add 1 (by omega)
theorem col_odd2 : Col k0_pay27 (64 + 1) := col_even2.add 1 (by omega)
theorem col_odd3 : Col k0_pay28 (96 + 1) := col_even3.add 1 (by omega)
theorem col_odd4 : Col k0_pay29 (128 + 1) := col_even4.add 1 (by omega)
theorem col_odd5 : Col k0_pay30 (160 + 1) := col_even5.add 1 (by omega)
theorem col_odd6 : Col k0_pay31 (192 + 1) := col_even6.add 1 (by omega)

/-- An indexed load whose row vector is constant and whose column vector steps by two. -/
theorem loadIdx_eq (g : S112x224.Idx → F .f32) {rv cv : IVec S16 32} {r k : ℕ} (hr : Row rv r) (hc : Col cv k) (hr' : r < 112) (hk : k < 194)
    (h : ∀ a x, ((![rv, cv] : Fin 2 → IVec S16 32) a x).toNat < S112x224.size a) (l : Fin 16) :
    loadIdx (F := F) (e := .f32) g ![rv, cv] h (ix1 l) = g (ix2 ⟨r, hr'⟩ ⟨2 * l.val + k, by omega⟩) := by
  show g (idxAt ![rv, cv] h (ix1 l)) = _
  congr 1
  funext a
  refine Fin.ext ?_
  refine Fin.cases ?_ (fun a => Fin.cases ?_ (fun a => a.elim0) a) a
  · exact hr _
  · exact hc _

/-- Constant rows and even or odd columns of the block are inside the block. -/
theorem inside {rv cv : IVec S16 32} {r k : ℕ} (hr : Row rv r) (hc : Col cv k) (hr' : r < 112) (hk : k < 194) :
    ∀ a x, ((![rv, cv] : Fin 2 → IVec S16 32) a x).toNat < S112x224.size a := by
  intro a x
  have h0 : (x 0).val < 16 := (x 0).isLt
  refine Fin.cases ?_ (fun a => Fin.cases ?_ (fun a => a.elim0) a) a
  · show (rv x).toNat < 112; rw [hr x]; exact hr'
  · show (cv x).toNat < 224; rw [hc x]; omega

/-! ## The output block filled up to a store -/

/-- The block `w` holds the pool of `g` in its first `n` groups of sixteen elements, seven groups to a row. -/
def upto (g : S112x224.Idx → F .f32) (n : ℕ) (w : S56x112.Idx → F .f32) : Prop :=
  ∀ i : S56x112.Idx, (i 0).val * 7 + (i 1).val / 16 < n → w i = poolBlk g i

/-- A store of the next sixteen elements fills one group more. -/
theorem upto_store {g : S112x224.Idx → F .f32} {κ : Kind} {b : Memref sig κ .vmem S56x112 .f32} {r j : ℕ} (hr : r < 56) (hj : j < 7) {off : Fin 2 → ℕ}
    {inb : ∀ a, off a + S1x16.size a ≤ S56x112.size a} (ho : off = ![r, 16 * j]) {f : b.view.ty.Contents (Elt F)} {w : S1x16.Idx → F .f32}
    (hw : ∀ l : Fin 16, w (ix2 0 l) = poolBlk g (ix2 ⟨r, hr⟩ ⟨16 * j + l.val, by omega⟩)) (hf : upto g (r * 7 + j) (b.view.read (Elt F) f)) :
    upto g (r * 7 + j + 1) (b.view.read (Elt F) ((b.access (Rect.unit (s := S56x112) off S1x16.size inb)).write (Elt F) f w Finset.univ)) := by
  intro i hi
  have h1 : (i 1).val < 112 := (i 1).isLt
  by_cases h : (i 0).val = r ∧ (i 1).val / 16 = j
  · have hl : (i 1).val - 16 * j < 16 := by omega
    refine (View.read_writes_cons_unit_of_mem b.view f inb w [] i (ix2 (0 : Fin 1) ⟨(i 1).val - 16 * j, hl⟩) ho ?_).trans ((hw _).trans ?_)
    · refine Fin.cases ?_ (fun a => Fin.cases ?_ (fun a => a.elim0) a)
      · show (i 0).val = r + 0; omega
      · show (i 1).val = 16 * j + ((i 1).val - 16 * j); omega
    · congr 1
      funext a
      refine Fin.ext ?_
      refine Fin.cases ?_ (fun a => Fin.cases ?_ (fun a => a.elim0) a) a
      · show r = (i 0).val; omega
      · show 16 * j + ((i 1).val - 16 * j) = (i 1).val; omega
  · have hlt : (i 0).val * 7 + (i 1).val / 16 < r * 7 + j := by omega
    refine Eq.trans ?_ (hf i hlt)
    by_cases h0 : (i 0).val = r
    · refine View.read_writes_cons_unit_of_not_mem b.view f inb w [] i ho 1 ?_
      show (i 1).val < 16 * j ∨ 16 * j + 16 ≤ (i 1).val
      omega
    · refine View.read_writes_cons_unit_of_not_mem b.view f inb w [] i ho 0 ?_
      show (i 0).val < r ∨ r + 1 ≤ (i 0).val
      omega

/-! ## One store's group of operations -/

abbrev cV (L : grid0.Coords) : Fin τ.nSC := (L 0).castLE hcore0
abbrev jV (L : grid0.Coords) : Fin τ.nSub := (L 1).castLE hsub0

variable (d : Dev nD) (L : grid0.Coords)

/-- Tile `L` of device `d`. -/
abbrev tl (d : Dev nD) (L : grid0.Coords) : Thread nD τ := V d (cV L) (jV L)

/-- An indexed load from a block known to hold `g` gives `g` at the indices. -/
theorem wp_gather {a : Memref sig .scVector .vmem S112x224 .f32} {g : S112x224.Idx → F .f32} {idxs : Fin S112x224.rank → IVec S16 32}
    {h : ∀ x y, (idxs x y).toNat < S112x224.size x} {hl : a.view.Loads} {α : Type} {k : Vec F S16 .f32 → Prog (TpuEff nD τ sig (Elt F) Λ₀ (tl d L).2) α} {Q : α → sProp 𝕄} :
    (At (tl d L) a fullShare (· = g) : sProp 𝕄)
      ⊢ iprop((At (tl d L) a fullShare (· = g) -∗ wp frame (wpE (defs₀ (F := F)) 𝒱₀ (tl d L) none) Set.univ (k (loadIdx g idxs h)) Q)
        -∗ wp frame (wpE (defs₀ (F := F)) 𝒱₀ (tl d L) none) Set.univ (SparseCore.vectorLoadIdx a idxs h hl >>= k) Q) := by
  unfold At
  iintro ⟨%f, %hf, H⟩ HK
  iapply (SparseCore.wp_vectorLoadIdx 𝒱₀ (tl d L) none Set.univ (base := a) (S := a.view.set) (q := fullShare) (View.set_slice_subset _ _)) $$ H
  iintro H
  have e : (a.access (.whole S112x224)).read (Elt F) f = g := by
    refine Eq.trans (funext fun x => ?_) hf
    show a.view.read (Elt F) f ((Rect.whole S112x224).emb x) = _
    rw [Rect.emb_whole_apply]
  rw [e]
  iapply HK
  iexists f
  isplitr
  · ipureintro; exact hf
  · iexact H

/-- The vector holds sixteen elements of the pooled block: those of row `r` from column `16 j` on. -/
def Pooled (g : S112x224.Idx → F .f32) (r j : ℕ) (v : S16.Idx → F .f32) : Prop :=
  ∀ (hr : r < 56) (hj : j < 7) (l : Fin 16), v (ix1 l) = poolBlk g (ix2 ⟨r, hr⟩ ⟨16 * j + l.val, by omega⟩)

/-- The greatest of the four gathered vectors is sixteen elements of the pooled block. -/
theorem pooled_max {g : S112x224.Idx → F .f32} {r j : ℕ} {r0 r1 ce co : IVec S16 32} (h0 : Row r0 (2 * r)) (h1 : Row r1 (2 * r + 1))
    (he : Col ce (32 * j)) (ho : Col co (32 * j + 1))
    (i00 : ∀ x y, ((![r0, ce] : Fin 2 → IVec S16 32) x y).toNat < S112x224.size x) (i01 : ∀ x y, ((![r0, co] : Fin 2 → IVec S16 32) x y).toNat < S112x224.size x)
    (i10 : ∀ x y, ((![r1, ce] : Fin 2 → IVec S16 32) x y).toNat < S112x224.size x) (i11 : ∀ x y, ((![r1, co] : Fin 2 → IVec S16 32) x y).toNat < S112x224.size x) :
    Pooled g r j (maximumf (maximumf (loadIdx (F := F) (e := .f32) g ![r0, ce] i00) (loadIdx (F := F) (e := .f32) g ![r0, co] i01))
      (maximumf (loadIdx (F := F) (e := .f32) g ![r1, ce] i10) (loadIdx (F := F) (e := .f32) g ![r1, co] i11))) := by
  intro hr hj l
  show max4 _ _ _ _ = _
  rw [loadIdx_eq g h0 he (by omega) (by omega), loadIdx_eq g h0 ho (by omega) (by omega), loadIdx_eq g h1 he (by omega) (by omega),
    loadIdx_eq g h1 ho (by omega) (by omega)]
  unfold poolBlk
  simp only [ix2]
  congr 3 <;> (refine Fin.ext ?_; first | (show 2 * l.val + 32 * j = 2 * (16 * j + l.val); omega) |
    (show 2 * l.val + (32 * j + 1) = 2 * (16 * j + l.val) + 1; omega))

/-- Four indexed loads, and a load of the output block whose value is not used. -/
theorem wp_take {a : Memref sig .scVector .vmem S112x224 .f32} {b : Memref sig .scVector .vmem S56x112 .f32} {g : S112x224.Idx → F .f32}
    {G : (S56x112.Idx → F .f32) → Prop} {r j : ℕ} {r0 r1 ce co : IVec S16 32} (h0 : Row r0 (2 * r)) (h1 : Row r1 (2 * r + 1)) (he : Col ce (32 * j)) (ho : Col co (32 * j + 1))
    {i00 : ∀ x y, ((![r0, ce] : Fin 2 → IVec S16 32) x y).toNat < S112x224.size x} {i01 : ∀ x y, ((![r0, co] : Fin 2 → IVec S16 32) x y).toNat < S112x224.size x}
    {i10 : ∀ x y, ((![r1, ce] : Fin 2 → IVec S16 32) x y).toNat < S112x224.size x} {i11 : ∀ x y, ((![r1, co] : Fin 2 → IVec S16 32) x y).toNat < S112x224.size x}
    {hl0 hl1 hl2 hl3 : a.view.Loads} {R : LoadRect S56x112} {hl : b.view.LoadsAt R}
    {α : Type} {k : Vec F S16 .f32 → Vec F S16 .f32 → Vec F S16 .f32 → Vec F S16 .f32 → Prog (TpuEff nD τ sig (Elt F) Λ₀ (tl d L).2) α} {Q : α → sProp 𝕄} :
    (iprop(At (tl d L) a fullShare (· = g) ∗ At (tl d L) b fullShare G) : sProp 𝕄)
      ⊢ iprop((∀ x0 x1 x2 x3, ⌜Pooled g r j (maximumf (maximumf x0 x1) (maximumf x2 x3))⌝ -∗ At (tl d L) a fullShare (· = g) -∗ At (tl d L) b fullShare G
          -∗ wp frame (wpE (defs₀ (F := F)) 𝒱₀ (tl d L) none) Set.univ (k x0 x1 x2 x3) Q)
        -∗ wp frame (wpE (defs₀ (F := F)) 𝒱₀ (tl d L) none) Set.univ
          (SparseCore.vectorLoadIdx a ![r0, ce] i00 hl0 >>= fun x0 => SparseCore.vectorLoadIdx a ![r0, co] i01 hl1 >>= fun x1 =>
            SparseCore.vectorLoadIdx a ![r1, ce] i10 hl2 >>= fun x2 => SparseCore.vectorLoadIdx a ![r1, co] i11 hl3 >>= fun x3 =>
              .op (.load b R hl) fun _ => k x0 x1 x2 x3) Q) := by
  iintro ⟨Ha, Hb⟩ HK
  iapply (wp_gather d L) $$ Ha; iintro Ha
  iapply (wp_gather d L) $$ Ha; iintro Ha
  iapply (wp_gather d L) $$ Ha; iintro Ha
  iapply (wp_gather d L) $$ Ha; iintro Ha
  unfold At
  icases Hb with ⟨%f, %hf, Hb⟩
  iapply (wp_load 𝒱₀ (tl d L) none Set.univ (m := b) (S := b.view.set) (View.setOn_subset_set _ _)) $$ Hb; iintro Hb
  ispecialize HK $$ %_
  ispecialize HK $$ %_
  ispecialize HK $$ %_
  ispecialize HK $$ %_
  ispecialize HK $$ %(pooled_max (g := g) h0 h1 he ho i00 i01 i10 i11)
  ispecialize HK $$ Ha
  iapply HK
  iexists f
  isplitr
  · ipureintro; exact hf
  · iexact Hb

/-- The store of the next sixteen elements of the pooled block. -/
theorem wp_put {b : Memref sig .scVector .vmem S56x112 .f32} {g : S112x224.Idx → F .f32}
    {r j : ℕ} (hr : r < 56) (hj : j < 7) {off : Fin 2 → ℕ} {inb : ∀ x, off x + S1x16.size x ≤ S56x112.size x} (hoff : off = ![r, 16 * j])
    {v : S16.Idx → F .f32} (hv : Pooled g r j v) {hx hm}
    {α : Type} {k : PUnit → Prog (TpuEff nD τ sig (Elt F) Λ₀ (tl d L).2) α} {Q : α → sProp 𝕄} :
    (At (tl d L) b fullShare (upto g (r * 7 + j)) : sProp 𝕄)
      ⊢ iprop((At (tl d L) b fullShare (upto g (r * 7 + (j + 1))) -∗ wp frame (wpE (defs₀ (F := F)) 𝒱₀ (tl d L) none) Set.univ (k ⟨⟩) Q)
        -∗ wp frame (wpE (defs₀ (F := F)) 𝒱₀ (tl d L) none) Set.univ
          (.op (.store b (Rect.unit (s := S56x112) off S1x16.size inb) (shapeCast S1x16 v shapeCasts_S16_S1x16) Finset.univ hx hm) k) Q) := by
  unfold At
  iintro ⟨%f, %hf, Hb⟩ HK
  iapply (wp_store 𝒱₀ (tl d L) none Set.univ (m := b) (r := Rect.unit (s := S56x112) off S1x16.size inb) (S := b.view.set)
    (View.set_slice_subset _ _)) $$ Hb; iintro Hb
  iapply HK
  iexists _
  isplitr
  rotate_left
  · iexact Hb
  · ipureintro
    exact upto_store hr hj hoff (fun l => (ValueIdx.shapeCast_a_1a_apply _ _ _ _).trans (hv hr hj l)) hf

/-! ## The loop's body -/

/-- The row vector of pass `t` holds twice the pass's number. -/
theorem row_even (t : Fin k0_t2_loop.trips) :
    Row (broadcast S16 (Scalar.muli 2#32 (Scalar.addi 0#32 (Scalar.muli (Scf.iv 0#32 1#32 t) 1#32)))) (2 * t.val) := by
  intro x
  have ht : t.val < 56 := t.isLt
  show (Scalar.muli 2#32 (Scalar.addi 0#32 (Scalar.muli (Scf.iv 0#32 1#32 t) 1#32))).toNat = _
  have e : (Scalar.muli 2#32 (Scalar.addi 0#32 (Scalar.muli (Scf.iv 0#32 1#32 t) 1#32))) = 2#32 * BitVec.ofNat 32 t.val := by
    simp [Scalar.muli, Scalar.addi, Scf.iv, IntOp.muli, IntOp.addi]
  rw [e, BitVec.toNat_mul, BitVec.toNat_ofNat, BitVec.toNat_ofNat]
  omega

/-- The second row vector of a pass holds one more. -/
theorem row_odd {v : IVec S16 32} {r : ℕ} (h : Row v r) (hr : r < 1000) : Row (k0_pay1 v) (r + 1) := by
  intro x
  show (v x + 1#32).toNat = r + 1
  rw [BitVec.toNat_add, h x, BitVec.toNat_ofNat]
  omega

/-- The first row vector's indices are inside the block. -/
theorem chk_even {v : IVec S16 32} {r : ℕ} (h : Row v r) (hr : r < 112) : k0_chk1 k0_pay18 k0_pay19 k0_pay20 k0_pay21 k0_pay22 k0_pay23 k0_pay24 k0_pay25 k0_pay26 k0_pay27 k0_pay28 k0_pay29 k0_pay30 k0_pay31 v :=
  ⟨inside h col_even0 hr (by omega), inside h col_odd0 hr (by omega), inside h col_even1 hr (by omega), inside h col_odd1 hr (by omega), inside h col_even2 hr (by omega), inside h col_odd2 hr (by omega), inside h col_even3 hr (by omega), inside h col_odd3 hr (by omega), inside h col_even4 hr (by omega), inside h col_odd4 hr (by omega), inside h col_even5 hr (by omega), inside h col_odd5 hr (by omega), inside h col_even6 hr (by omega), inside h col_odd6 hr (by omega)⟩

/-- What the first part of a pass yields: the row vectors, and the fourth group of elements. -/
def Part (g : S112x224.Idx → F .f32) (t : ℕ) (r0 r1 : IVec S16 32) (v : S16.Idx → F .f32) : Prop := Row r0 (2 * t) ∧ Row r1 (2 * t + 1) ∧ Pooled g t 3 v

/-- The first part of a pass stores three groups of elements and gathers the fourth. -/
theorem part_body (i : grid0.Coords) (arg2 : Memref sig .scVector .hbm S768x224x224 .f32) (harg2 : arg2.IsWhole) (arg3 : Memref sig .scVector .hbm S768x112x112 .f32) (harg3 : arg3.IsWhole)
    (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) (g : S112x224.Idx → F .f32) (t : Fin k0_t2_loop.trips) :
    (iprop(At (tl d i) arg4 fullShare (· = g) ∗ At (tl d i) arg6 fullShare (upto g (t.val * 7))) : sProp 𝕄)
      ⊢ wp frame (wpE (defs₀ (F := F)) 𝒱₀ (tl d i) none) Set.univ
        (k0_part1 (F := F) i arg2 harg2 arg3 harg3 arg4 harg4 arg5 harg5 arg6 harg6 arg7 harg7 arg8 arg9 arg10 arg11 k0_pay18 k0_pay19 k0_pay20 k0_pay21 k0_pay22 k0_pay23 k0_pay24 k0_pay25 k0_pay26 k0_pay27 k0_pay28 k0_pay29 k0_pay30 k0_pay31 0#32 1#32 t)
        fun p => iprop(At (tl d i) arg4 fullShare (· = g) ∗ At (tl d i) arg6 fullShare (upto g (t.val * 7 + 3))
          ∗ ⌜Part g t.val p.2.1 p.2.2.2.1 p.2.2.2.2.2⌝) := by
  simp only [k0_part1_eq_skeleton]; unfold k0_part1_skel
  simp only [Prog.bind_assoc, Prog.bind_lift, Prog.pure_eq_ret, Prog.bind_op, Prog.bind_ret]
  iintro ⟨Ha, Hb⟩
  have ht : t.val < 56 := t.isLt
  have h0 := row_even t
  have h1 := row_odd h0 (by omega)
  rw [wp_assume_of _ _ _ _ (chk_even h0 (by omega)), wp_assume_of _ _ _ _ (show k0_chk2 k0_pay18 k0_pay19 k0_pay20 k0_pay21 k0_pay22 k0_pay23 k0_pay24 k0_pay25 k0_pay26 k0_pay27 k0_pay28 k0_pay29 k0_pay30 k0_pay31 _ from chk_even h1 (by omega))]
  iapply (wp_take d i (g := g) (j := 0) h0 h1 col_even0 col_odd0) $$ [Ha Hb]
  · isplitl [Ha] <;> iassumption
  iintro %x0 %x1 %x2 %x3 %hv Ha Hb
  iapply (wp_put d i ht (show 0 < 7 by omega) (k0_off5_eq t) hv) $$ Hb; iintro Hb
  iapply (wp_take d i (g := g) (j := 1) h0 h1 col_even1 col_odd1) $$ [Ha Hb]
  · isplitl [Ha] <;> iassumption
  iintro %x0 %x1 %x2 %x3 %hv Ha Hb
  iapply (wp_put d i ht (show 1 < 7 by omega) (k0_off6_eq t) hv) $$ Hb; iintro Hb
  iapply (wp_take d i (g := g) (j := 2) h0 h1 col_even2 col_odd2) $$ [Ha Hb]
  · isplitl [Ha] <;> iassumption
  iintro %x0 %x1 %x2 %x3 %hv Ha Hb
  iapply (wp_put d i ht (show 2 < 7 by omega) (k0_off7_eq t) hv) $$ Hb; iintro Hb
  iapply (wp_take d i (g := g) (j := 3) h0 h1 col_even3 col_odd3) $$ [Ha Hb]
  · isplitl [Ha] <;> iassumption
  iintro %x0 %x1 %x2 %x3 %hv Ha Hb
  rw [wp_ret]
  imodintro
  isplitl [Ha]
  · iexact Ha
  · isplitl [Hb]
    · iexact Hb
    · ipureintro; exact ⟨h0, h1, hv⟩

/-- One pass of the loop fills one row of the output block. -/
theorem row_body (i : grid0.Coords) (arg2 : Memref sig .scVector .hbm S768x224x224 .f32) (harg2 : arg2.IsWhole) (arg3 : Memref sig .scVector .hbm S768x112x112 .f32) (harg3 : arg3.IsWhole)
    (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) (g : S112x224.Idx → F .f32) (t : Fin k0_t2_loop.trips) :
    (iprop(At (tl d i) arg4 fullShare (· = g) ∗ At (tl d i) arg6 fullShare (upto g (t.val * 7))) : sProp 𝕄)
      ⊢ wp frame (wpE (defs₀ (F := F)) 𝒱₀ (tl d i) none) Set.univ
        (k0_t2_body i arg2 harg2 arg3 harg3 arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1 t ())
        fun _ => iprop(At (tl d i) arg4 fullShare (· = g) ∗ At (tl d i) arg6 fullShare (upto g ((t.val + 1) * 7))) := by
  have ht : t.val < 56 := t.isLt
  unfold k0_t2_body
  rw [wp_bind]
  refine (part_body d i arg2 harg2 arg3 harg3 arg4 harg4 arg5 harg5 arg6 harg6 arg7 harg7 arg8 arg9 arg10 arg11 v2 c0 c1 t1 g t).trans (wp_mono frame _ _ fun p => ?_)
  obtain ⟨v83, v85, hw1, v87, hw2, v121⟩ := p
  iintro ⟨Ha, Hb, %hp⟩
  obtain ⟨h0, h1, hv⟩ := (show Part g t.val v85 v87 v121 from hp)
  simp only [Prog.bind_assoc, Prog.bind_lift, Prog.pure_eq_ret, Prog.bind_op, Prog.bind_ret]
  iapply (wp_put d i ht (show 3 < 7 by omega) (k0_off8_eq t) hv) $$ Hb; iintro Hb
  iapply (wp_take d i (g := g) (j := 4) h0 h1 col_even4 col_odd4) $$ [Ha Hb]
  · isplitl [Ha] <;> iassumption
  iintro %x0 %x1 %x2 %x3 %hv Ha Hb
  iapply (wp_put d i ht (show 4 < 7 by omega) (k0_off9_eq t) hv) $$ Hb; iintro Hb
  iapply (wp_take d i (g := g) (j := 5) h0 h1 col_even5 col_odd5) $$ [Ha Hb]
  · isplitl [Ha] <;> iassumption
  iintro %x0 %x1 %x2 %x3 %hv Ha Hb
  iapply (wp_put d i ht (show 5 < 7 by omega) (k0_off10_eq t) hv) $$ Hb; iintro Hb
  iapply (wp_take d i (g := g) (j := 6) h0 h1 col_even6 col_odd6) $$ [Ha Hb]
  · isplitl [Ha] <;> iassumption
  iintro %x0 %x1 %x2 %x3 %hv Ha Hb
  iapply (wp_put d i ht (show 6 < 7 by omega) (k0_off11_eq t) hv) $$ Hb; iintro Hb
  rw [wp_ret]
  imodintro
  isplitl [Ha]
  · iexact Ha
  · rw [show (t.val + 1) * 7 = t.val * 7 + (6 + 1) by omega]
    iexact Hb

/-- The loop over the rows of a block leaves the pooled block in the output buffer. -/
theorem row_loop (i : grid0.Coords) (arg2 : Memref sig .scVector .hbm S768x224x224 .f32) (harg2 : arg2.IsWhole) (arg3 : Memref sig .scVector .hbm S768x112x112 .f32) (harg3 : arg3.IsWhole)
    (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) (g : S112x224.Idx → F .f32) :
    (iprop(At (tl d i) arg4 fullShare (· = g) ∗ At (tl d i) arg6 fullShare (fun _ => True)) : sProp 𝕄)
      ⊢ wp frame (wpE (defs₀ (F := F)) 𝒱₀ (tl d i) none) Set.univ
        (Scf.for k0_t2_loop.lb k0_t2_loop.ub k0_t2_loop.st k0_t2_ok () (k0_t2_body i arg2 harg2 arg3 harg3 arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1))
        fun _ => iprop(At (tl d i) arg4 fullShare (· = g) ∗ At (tl d i) arg6 fullShare (· = poolBlk g)) := by
  iintro ⟨Ha, Hb⟩
  iapply (Scf.wp_for frame (wpE (defs₀ (F := F)) 𝒱₀ (tl d i) none) Set.univ _ _ _ k0_t2_ok () _
    (fun n _ => iprop(At (tl d i) arg4 fullShare (· = g) ∗ At (tl d i) arg6 fullShare (upto g (n * 7))))
    (fun t _ => row_body d i arg2 harg2 arg3 harg3 arg4 harg4 arg5 harg5 arg6 harg6 arg7 harg7 arg8 arg9 arg10 arg11 v2 c0 c1 t1 g t))
  isplitl [Ha Hb]
  · isplitl [Ha]
    · iexact Ha
    · unfold At
      icases Hb with ⟨%f, -, Hb⟩
      iexists f
      isplitr
      · ipureintro; intro j hj; omega
      · iexact Hb
  · iintro %_ ⟨Ha, Hb⟩
    isplitl [Ha]
    · iexact Ha
    · unfold At
      icases Hb with ⟨%f, %hf, Hb⟩
      iexists f
      isplitr
      · ipureintro
        funext j
        have h0 : (j 0).val < 56 := (j 0).isLt
        have h1 : (j 1).val < 112 := (j 1).isLt
        refine hf j ?_
        show (j 0).val * 7 + (j 1).val / 16 < 56 * 7
        omega
      · iexact Hb

/-- The second loop over rows is the first with the buffers of the two halves exchanged. -/
theorem second_body (i : grid0.Coords) (arg2 : Memref sig .scVector .hbm S768x224x224 .f32) (harg2 : arg2.IsWhole) (arg3 : Memref sig .scVector .hbm S768x112x112 .f32) (harg3 : arg3.IsWhole)
    (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) :
    k0_t3_body (F := F) i arg2 harg2 arg3 harg3 arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1 = k0_t2_body (F := F) i arg2 harg2 arg3 harg3 arg5 harg5 arg4 harg4 arg7 harg7 arg6 harg6 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1 := rfl

end Cert.Proof
-- ==== Proof.Copies.lean ====
/-
  A tile's copies. Each of its four buffers has one semaphore and at most one copy under way: a copy in brings half an image of
  the tile's images, a copy out takes half a pooled image to its place. For each kind the state between copies and the state
  during one are assertions, and the enqueue and the wait take one to the other.
-/
module

public import proofs.«01_k».proof.Proof.Row
public import Idealize.ShloMosaic.Lib.Transfers

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev xLoc (d : Dev nD) : Loc nD τ sig := (SparseCore.T d).loc main_v0
abbrev yLoc (d : Dev nD) : Loc nD τ sig := (SparseCore.T d).loc main_v1

/-- The elements of the input that tile number `w` reads: its twenty-four images. -/
def tileIn (w : ℕ) : Finset S768x224x224.Idx := Finset.univ.filter fun i => (i 0).val / 24 = w

/-- The elements of the output that tile number `w` writes in the halves `h`. -/
def tileOut (w h : ℕ) : Finset S768x112x112.Idx := Finset.univ.filter fun i => (i 0).val / 24 = w ∧ (i 1).val / 56 = h

theorem inSet_subset {n h w : ℕ} (hn : n / 24 = w) : inSet n h ⊆ tileIn w := by
  intro i hi
  simp only [inSet, tileIn, Finset.mem_filter, Finset.mem_univ, true_and] at hi ⊢
  rw [hi.1]; exact hn

theorem outSet_subset {n h w : ℕ} (hn : n / 24 = w) : outSet n h ⊆ tileOut w h := by
  intro i hi
  simp only [outSet, tileOut, Finset.mem_filter, Finset.mem_univ, true_and] at hi ⊢
  exact ⟨by rw [hi.1]; exact hn, hi.2⟩

/-- The images below number `n` hold their pool. -/
def PooledTo (X : S768x224x224.Idx → F .f32) (w h n : ℕ) (f : S768x112x112.Idx → F .f32) : Prop := ∀ i ∈ tileOut w h, (i 0).val < n → f i = poolArr X i

/-- What the tile owes, with every wait it has added at the index without a level. -/
def Owing (c : Thread nD τ) (O : CellTallies nD τ sig (HIx 1)) (W : Waits sig (HIx 1)) : sProp 𝕄 :=
  iprop(∃ W', ⌜∀ p ∈ W', p ∈ W ∨ p.2 = none⌝ ∗ owes c O W')

variable (d : Dev nD) (L : grid0.Coords) (X : S768x224x224.Idx → F .f32)

/-! ## Copies in -/

/-- No copy in is under way: the buffer, the semaphore at zero and the tile's share of the input. -/
def InIdle (b : Memref sig .scVector .vmem S112x224 .f32) (s : DmaSems sig S_) (q : PosShare TreeShare) (w : ℕ) (G : (S112x224.Idx → F .f32) → Prop) : sProp 𝕄 :=
  iprop(At (tl d L) b fullShare G ∗ semVal (tl d L, .dma s.sem) 0 ∗ xLoc d ↦[tileIn w]{q} X)

/-- The copy of half `h` of image `n` is under way. -/
def InBusy (b : Memref sig .scVector .vmem S112x224 .f32) (s : DmaSems sig S_) (q : PosShare TreeShare) (w : ℕ) (n : Fin 768) (h : Fin 2) : sProp 𝕄 :=
  iprop(Transfers.Flight countersEmb (tl d L) (.dma s.sem) (default : HIx 1) b.view.dmaCredit
      iprop(At (tl d L) b fullShare (· = inBlk X n h) ∗ xLoc d ↦[inSet n.val h.val]{q} X)
    ∗ xLoc d ↦[tileIn w \ inSet n.val h.val]{q} X)

/-- Enqueuing a copy in. -/
theorem wp_issue_in {b : Memref sig .scVector .vmem S112x224 .f32} {s : DmaSems sig S_} {q : PosShare TreeShare} {w : ℕ} {n : Fin 768} (h : Fin 2) (hn : n.val / 24 = w)
    {off : Fin 3 → ℕ} {inb : ∀ a, off a + S1x112x224.size a ≤ S768x224x224.size a} (ho : off = ![n.val, 112 * h.val, 0]) {hs hd ht}
    {α : Type} {k : PUnit → Prog (TpuEff nD τ sig (Elt F) Λ₀ (tl d L).2) α} {Q : α → sProp 𝕄} {G : (S112x224.Idx → F .f32) → Prop} :
    InIdle d L X b s q w G
      ⊢ iprop((InBusy d L X b s q w n h -∗ wp frame (wpE (defs₀ (F := F)) 𝒱₀ (tl d L) none) Set.univ (k ⟨⟩) Q)
        -∗ wp frame (wpE (defs₀ (F := F)) 𝒱₀ (tl d L) none) Set.univ (.op (.enqueueDma (inSl off inb) (.here b) (.dma s.sem) hs hd ht) k) Q) := by
  unfold InIdle InBusy
  iintro ⟨Hb, Hv, Hx⟩ HK
  ihave Hx := (pointsTo_split_subset (inSet_subset (h := h.val) hn)).1 $$ Hx
  icases Hx with ⟨Hx, Hr⟩
  unfold At
  icases Hb with ⟨%f, -, Hb⟩
  ihave Hx := (show (xLoc d ↦[inSet n.val h.val]{q} X : sProp 𝕄) ⊢ (inSl off inb).view.loc (tl d L) ↦[(inSl off inb).view.set]{q} X from
    Entails.of_eq (by rw [inSl_set ho])) $$ Hx
  iapply (Transfers.wp_dmaLocal countersEmb 𝒱₀ (tl d L) none (src := inSl off inb) (dst := b) (sm := .dma s.sem) (q := q) (default : HIx 1) b.view.dmaCredit rfl
    (View.dmaCredit_pos _ h_S112x224) (Finset.Subset.refl _)) $$ [Hx Hb Hv]
  · isplitl [Hx]
    · iexact Hx
    · isplitl [Hb] <;> iassumption
  iintro Hf
  iapply HK
  isplitl [Hf]
  · iapply (Transfers.Flight_mono countersEmb (tl d L) ?_) $$ Hf
    iintro ⟨Hb, Hx⟩
    isplitl [Hb]
    · iexists _
      isplitr
      rotate_left
      · iexact Hb
      · ipureintro
        rw [View.read_write_univ]
        exact inSl_read n h ho X
    · ihave Hx := (show ((inSl off inb).view.loc (tl d L) ↦[(inSl off inb).view.set]{q} X : sProp 𝕄) ⊢ (xLoc d ↦[inSet n.val h.val]{q} X : sProp 𝕄) from
        Entails.of_eq (by rw [inSl_set ho])) $$ Hx
      iexact Hx
  · iexact Hr

/-- Waiting for a copy in. -/
theorem wp_await_in {b : Memref sig .scVector .vmem S112x224 .f32} {s : DmaSems sig S_} {q : PosShare TreeShare} {w : ℕ} {n : Fin 768} {h : Fin 2} (hn : n.val / 24 = w)
    {O : CellTallies nD τ sig (HIx 1)} {W : Waits sig (HIx 1)}
    {off : Fin 3 → ℕ} {inb : ∀ a, off a + S1x112x224.size a ≤ S768x224x224.size a} {hs hd}
    {α : Type} {k : PUnit → Prog (TpuEff nD τ sig (Elt F) Λ₀ (tl d L).2) α} {Q : α → sProp 𝕄} :
    iprop(InBusy d L X b s q w n h ∗ Owing (tl d L) O W ∗ Transfers.MayWaits (tl d L) (default : HIx 1) O)
      ⊢ iprop((InIdle d L X b s q w (· = inBlk X n h) -∗ Owing (tl d L) O W -∗ wp frame (wpE (defs₀ (F := F)) 𝒱₀ (tl d L) none) Set.univ (k ⟨⟩) Q)
        -∗ wp frame (wpE (defs₀ (F := F)) 𝒱₀ (tl d L) none) Set.univ (.op (.waitDma2 s.sem (inSl off inb) b hs hd) k) Q) := by
  unfold InIdle InBusy Owing
  iintro ⟨⟨Hf, Hr⟩, ⟨%W', %hW, HO⟩, #Hmw⟩ HK
  iapply (Transfers.wp_waitLocalO countersEmb 𝒱₀ (tl d L) none (sem := s.sem) (srcw := inSl off inb) (dstw := b) (default : HIx 1) rfl) $$ [Hf HO]
  · isplitl [Hf]
    · iexact Hf
    · isplitl [HO]
      · iexact HO
      · iapply (Transfers.MayWaits.elim (.dma s.sem)); iexact Hmw
  iintro ⟨⟨Hb, Hx⟩, Hv, HO⟩
  ispecialize HK $$ [Hb Hv Hx Hr]
  · isplitl [Hb]
    · iexact Hb
    · isplitl [Hv]
      · iexact Hv
      · iapply (pointsTo_split_subset (inSet_subset (h := h.val) hn)).2
        isplitl [Hx] <;> iassumption
  iapply HK
  iexists _
  isplitr
  rotate_left
  · iexact HO
  · ipureintro
    intro p hp
    rcases Finset.mem_insert.mp hp with rfl | hp
    · exact Or.inr rfl
    · exact hW p hp

/-! ## Copies out -/

/-- The count a copy out adds to its semaphore. -/
def outCredit : ℕ := (Memref.whole main_v1_scv).view.ref.dmaCredit S56x112 .f32

/-- Every copy out adds the same count. -/
theorem out_credit (off : Fin 3 → ℕ) (inb : ∀ a, off a + S1x56x112.size a ≤ S768x112x112.size a) : (outSl off inb).view.dmaCredit = outCredit := rfl

/-- No copy out is under way: the buffer, the semaphore at zero and the tile's elements of the output, pooled below image `n`. -/
def OutIdle (b : Memref sig .scVector .vmem S56x112 .f32) (s : DmaSems sig S_) (w h n : ℕ) (G : (S56x112.Idx → F .f32) → Prop) : sProp 𝕄 :=
  iprop(At (tl d L) b fullShare G ∗ semVal (tl d L, .dma s.sem) 0 ∗ ∃ f, ⌜PooledTo X w h n f⌝ ∗ yLoc d ↦[tileOut w h]{fullShare} f)

/-- The copy of half `h` of pooled image `n` is under way. -/
def OutBusy (b : Memref sig .scVector .vmem S56x112 .f32) (s : DmaSems sig S_) (w h : ℕ) (n : Fin 768) : sProp 𝕄 :=
  iprop(Transfers.Flight countersEmb (tl d L) (.dma s.sem) (default : HIx 1) outCredit
      iprop((yLoc d ↦[outSet n.val h]{fullShare} poolArr X) ∗ At (tl d L) b fullShare (fun _ => True))
    ∗ ∃ f, ⌜PooledTo X w h n.val f⌝ ∗ yLoc d ↦[tileOut w h \ outSet n.val h]{fullShare} f)

/-- Enqueuing a copy out. -/
theorem wp_issue_out {b : Memref sig .scVector .vmem S56x112 .f32} {s : DmaSems sig S_} {w : ℕ} {n : Fin 768} (h : Fin 2) (hn : n.val / 24 = w)
    {off : Fin 3 → ℕ} {inb : ∀ a, off a + S1x56x112.size a ≤ S768x112x112.size a} (ho : off = ![n.val, 56 * h.val, 0]) {hs hd ht}
    {α : Type} {k : PUnit → Prog (TpuEff nD τ sig (Elt F) Λ₀ (tl d L).2) α} {Q : α → sProp 𝕄} :
    OutIdle d L X b s w h.val n.val (· = poolBlk (inBlk X n h))
      ⊢ iprop((OutBusy d L X b s w h.val n -∗ wp frame (wpE (defs₀ (F := F)) 𝒱₀ (tl d L) none) Set.univ (k ⟨⟩) Q)
        -∗ wp frame (wpE (defs₀ (F := F)) 𝒱₀ (tl d L) none) Set.univ (.op (.enqueueDma b (.here (outSl off inb)) (.dma s.sem) hs hd ht) k) Q) := by
  unfold OutIdle OutBusy
  iintro ⟨Hb, Hv, ⟨%f, %hf, Hy⟩⟩ HK
  ihave Hy := (pointsTo_split_subset (outSet_subset (h := h.val) hn)).1 $$ Hy
  icases Hy with ⟨Hy, Hr⟩
  unfold At
  icases Hb with ⟨%g, %hg, Hb⟩
  ihave Hy := (show (yLoc d ↦[outSet n.val h.val]{fullShare} f : sProp 𝕄) ⊢ (outSl off inb).view.loc (tl d L) ↦[(outSl off inb).view.set]{fullShare} f from
    Entails.of_eq (by rw [outSl_set ho])) $$ Hy
  iapply (Transfers.wp_dmaLocal countersEmb 𝒱₀ (tl d L) none (src := b) (dst := outSl off inb) (sm := .dma s.sem) (q := fullShare) (default : HIx 1) outCredit (out_credit off inb)
    (by rw [← out_credit off inb]; exact View.dmaCredit_pos _ (by decide)) (Finset.Subset.refl _)) $$ [Hy Hb Hv]
  · isplitl [Hb]
    · iexact Hb
    · isplitl [Hy] <;> iassumption
  iintro Hf
  iapply HK
  isplitl [Hf]
  · iapply (Transfers.Flight_mono countersEmb (tl d L) ?_) $$ Hf
    iintro ⟨Hy, Hb⟩
    isplitl [Hy]
    · ihave Hy := (show ((outSl off inb).view.loc (tl d L) ↦[(outSl off inb).view.set]{fullShare}
            ((outSl off inb).view.write (Elt F) f (b.view.read (Elt F) g) Finset.univ) : sProp 𝕄) ⊢ (yLoc d ↦[outSet n.val h.val]{fullShare} poolArr X : sProp 𝕄) from
        Entails.of_eq (by rw [outSl_set ho, hg]; exact pointsTo_congr (outSl_write n h ho X f))) $$ Hy
      iexact Hy
    · iexists g
      isplitr
      · ipureintro; trivial
      · iexact Hb
  · iexists f
    isplitr
    · ipureintro; exact hf
    · iexact Hr

/-- Waiting for a copy out. -/
theorem wp_await_out {b : Memref sig .scVector .vmem S56x112 .f32} {s : DmaSems sig S_} {w h : ℕ} {n : Fin 768} (hn : n.val / 24 = w)
    {O : CellTallies nD τ sig (HIx 1)} {W : Waits sig (HIx 1)}
    {off : Fin 3 → ℕ} {inb : ∀ a, off a + S1x56x112.size a ≤ S768x112x112.size a} {hs hd}
    {α : Type} {k : PUnit → Prog (TpuEff nD τ sig (Elt F) Λ₀ (tl d L).2) α} {Q : α → sProp 𝕄} :
    iprop(OutBusy d L X b s w h n ∗ Owing (tl d L) O W ∗ Transfers.MayWaits (tl d L) (default : HIx 1) O)
      ⊢ iprop((OutIdle d L X b s w h (n.val + 1) (fun _ => True) -∗ Owing (tl d L) O W -∗ wp frame (wpE (defs₀ (F := F)) 𝒱₀ (tl d L) none) Set.univ (k ⟨⟩) Q)
        -∗ wp frame (wpE (defs₀ (F := F)) 𝒱₀ (tl d L) none) Set.univ (.op (.waitDma2 s.sem b (outSl off inb) hs hd) k) Q) := by
  unfold OutIdle OutBusy Owing
  iintro ⟨⟨Hf, ⟨%f, %hf, Hr⟩⟩, ⟨%W', %hW, HO⟩, #Hmw⟩ HK
  iapply (Transfers.wp_waitLocalO countersEmb 𝒱₀ (tl d L) none (sem := s.sem) (srcw := b) (dstw := outSl off inb) (default : HIx 1) (out_credit off inb)) $$ [Hf HO]
  · isplitl [Hf]
    · iexact Hf
    · isplitl [HO]
      · iexact HO
      · iapply (Transfers.MayWaits.elim (.dma s.sem)); iexact Hmw
  iintro ⟨⟨Hy, Hb⟩, Hv, HO⟩
  ihave Hy := (pointsTo_join_subset (ℓ := yLoc d) (outSet_subset (h := h) hn)) $$ [Hy Hr]
  · isplitl [Hy] <;> iassumption
  ispecialize HK $$ [Hb Hv Hy]
  · isplitl [Hb]
    · iexact Hb
    · isplitl [Hv]
      · iexact Hv
      · iexists _
        isplitr
        rotate_left
        · iexact Hy
        · ipureintro
          intro i hi hlt
          by_cases hm : i ∈ outSet n.val h
          · exact Finset.piecewise_eq_of_mem _ _ _ hm
          · refine (Finset.piecewise_eq_of_notMem _ _ _ hm).trans (hf i hi ?_)
            simp only [outSet, tileOut, Finset.mem_filter, Finset.mem_univ, true_and] at hm hi
            have : (i 0).val ≠ n.val := fun e => hm ⟨e, hi.2⟩
            omega
  iapply HK
  iexists _
  isplitr
  rotate_left
  · iexact HO
  · ipureintro
    intro p hp
    rcases Finset.mem_insert.mp hp with rfl | hp
    · exact Or.inr rfl
    · exact hW p hp

end Cert.Proof
-- ==== Proof.Tile.lean ====
/-
  A tile's run: its loop over twenty-four images, two halves each, carrying for every buffer the copy that is under way.
-/
module

public import proofs.«01_k».proof.Proof.Copies

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The number of the tile, by which the kernel chooses its images. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid
  omega

/-- Image `k` of the tile. -/
def img (L : grid0.Coords) (k : ℕ) : Fin 768 := ⟨(24 * wid L + k) % 768, Nat.mod_lt _ (by omega)⟩

theorem img_val {L : grid0.Coords} {k : ℕ} (hk : k < 24) : (img L k).val = 24 * wid L + k := by
  have := wid_lt L
  exact Nat.mod_eq_of_lt (by omega)

theorem img_div {L : grid0.Coords} {k : ℕ} (hk : k < 24) : (img L k).val / 24 = wid L := by
  rw [img_val hk]; omega

variable (d : Dev nD) (L : grid0.Coords) (X : S768x224x224.Idx → F .f32)

/-- Before trip `k`: the copy in of image `k`'s half is under way, or after the last trip none is. -/
def InSt (b : Memref sig .scVector .vmem S112x224 .f32) (s : DmaSems sig S_) (q : PosShare TreeShare) (h : Fin 2) (k : ℕ) : sProp 𝕄 :=
  if k < 24 then InBusy d L X b s q (wid L) (img L k) h else InIdle d L X b s q (wid L) (fun _ => True)

/-- Before trip `k`: the copy out of the image before is under way, or before the first trip none is. -/
def OutSt (b : Memref sig .scVector .vmem S56x112 .f32) (s : DmaSems sig S_) (h : Fin 2) : ℕ → sProp 𝕄
  | 0 => OutIdle d L X b s (wid L) h.val (24 * wid L) (fun _ => True)
  | k + 1 => OutBusy d L X b s (wid L) h.val (img L k)

/-- The kernel's conditional wait for a copy out: whichever way it goes, no copy out is under way after it. -/
theorem wp_settle {b : Memref sig .scVector .vmem S56x112 .f32} {s : DmaSems sig S_} {h : Fin 2} {k : ℕ} (hk : k < 24)
    {O : CellTallies nD τ sig (HIx 1)} {W : Waits sig (HIx 1)} {c : Prop} [Decidable c] (hc : c ↔ 0 < k)
    {off : Fin 3 → ℕ} {inb : c → ∀ a, off a + S1x56x112.size a ≤ S768x112x112.size a} {hs : b.view.WordExact} {hd : ∀ x, (outSl off (inb x)).view.WordExact}
    {α : Type} {K : Prog (TpuEff nD τ sig (Elt F) Λ₀ (tl d L).2) α} {Q : α → sProp 𝕄} :
    iprop(OutSt d L X b s h k ∗ Owing (tl d L) O W ∗ Transfers.MayWaits (tl d L) (default : HIx 1) O)
      ⊢ iprop((OutIdle d L X b s (wid L) h.val (24 * wid L + k) (fun _ => True) -∗ Owing (tl d L) O W -∗ wp frame (wpE (defs₀ (F := F)) 𝒱₀ (tl d L) none) Set.univ K Q)
        -∗ wp frame (wpE (defs₀ (F := F)) 𝒱₀ (tl d L) none) Set.univ
          (if x : c then Prog.op (.waitDma2 s.sem b (outSl off (inb x)) hs (hd x)) (fun _ => K) else K) Q) := by
  iintro ⟨Hs, HO, #Hmw⟩ HK
  match k, hk, hc with
  | 0, _, hc =>
    rw [dif_neg (fun x => absurd (hc.mp x) (Nat.lt_irrefl 0))]
    ispecialize HK $$ [Hs]
    · unfold OutSt; iexact Hs
    iapply HK
    iexact HO
  | k + 1, hk, hc =>
    rw [dif_pos (hc.mpr (Nat.succ_pos k))]
    unfold OutSt
    iapply (wp_await_out d L X (img_div (show k < 24 by omega))) $$ [Hs HO]
    · isplitl [Hs]
      · iexact Hs
      · isplitl [HO]
        · iexact HO
        · iexact Hmw
    rw [img_val (show k < 24 by omega)]
    iintro Hs HO
    ispecialize HK $$ [Hs]
    · rw [show 24 * wid L + (k + 1) = 24 * wid L + k + 1 by omega]
      iexact Hs
    iapply HK
    iexact HO

/-- The kernel's conditional enqueue of the next copy in. -/
theorem wp_refill {b : Memref sig .scVector .vmem S112x224 .f32} {s : DmaSems sig S_} {q : PosShare TreeShare} (h : Fin 2) {k : ℕ}
    {c : Prop} [Decidable c] (hc : c ↔ k + 1 < 24)
    {off : Fin 3 → ℕ} {inb : c → ∀ a, off a + S1x112x224.size a ≤ S768x224x224.size a} (ho : off = ![24 * wid L + (k + 1), 112 * h.val, 0])
    {hs : ∀ x, (inSl off (inb x)).view.WordExact} {hd : b.view.WordExact} {ht}
    {α : Type} {K : Prog (TpuEff nD τ sig (Elt F) Λ₀ (tl d L).2) α} {Q : α → sProp 𝕄} {G : (S112x224.Idx → F .f32) → Prop} :
    InIdle d L X b s q (wid L) G
      ⊢ iprop((InSt d L X b s q h (k + 1) -∗ wp frame (wpE (defs₀ (F := F)) 𝒱₀ (tl d L) none) Set.univ K Q)
        -∗ wp frame (wpE (defs₀ (F := F)) 𝒱₀ (tl d L) none) Set.univ
          (if x : c then Prog.op (.enqueueDma (inSl off (inb x)) (.here b) (.dma s.sem) (hs x) hd ht) (fun _ => K) else K) Q) := by
  iintro Hs HK
  by_cases x : c
  · have hk := hc.mp x
    rw [dif_pos x]
    unfold InSt
    rw [if_pos hk]
    iapply (wp_issue_in d L X (n := img L (k + 1)) h (img_div hk) (by rw [img_val hk]; exact ho)) $$ Hs
    iexact HK
  · have hk : ¬ k + 1 < 24 := fun e => x (hc.mpr e)
    rw [dif_neg x]
    unfold InSt
    rw [if_neg hk]
    iapply HK
    unfold InIdle At
    icases Hs with ⟨⟨%f, -, Hb⟩, Hv, Hx⟩
    isplitl [Hb]
    · iexists f
      isplitr
      · ipureintro; trivial
      · iexact Hb
    · isplitl [Hv] <;> iassumption

/-- The row loop between the copies: with the half in one buffer, it leaves the half pooled in the other. -/
theorem wp_rows (i : grid0.Coords) (arg2 : Memref sig .scVector .hbm S768x224x224 .f32) (harg2 : arg2.IsWhole) (arg3 : Memref sig .scVector .hbm S768x112x112 .f32) (harg3 : arg3.IsWhole)
    (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) {q : PosShare TreeShare} {w h n : ℕ} (g : S112x224.Idx → F .f32)
    {α : Type} {K : PUnit → Prog (TpuEff nD τ sig (Elt F) Λ₀ (tl d i).2) α} {Q : α → sProp 𝕄} :
    (iprop(InIdle d i X arg4 arg8 q w (· = g) ∗ OutIdle d i X arg6 arg10 w h n (fun _ => True)) : sProp 𝕄)
      ⊢ iprop((InIdle d i X arg4 arg8 q w (· = g) -∗ OutIdle d i X arg6 arg10 w h n (· = poolBlk g) -∗ wp frame (wpE (defs₀ (F := F)) 𝒱₀ (tl d i) none) Set.univ (K ⟨⟩) Q)
        -∗ wp frame (wpE (defs₀ (F := F)) 𝒱₀ (tl d i) none) Set.univ
          (Scf.for k0_t2_loop.lb k0_t2_loop.ub k0_t2_loop.st k0_t2_ok () (k0_t2_body i arg2 harg2 arg3 harg3 arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1) >>= K) Q) := by
  unfold OutIdle InIdle
  iintro ⟨⟨Hb, Hv, Hx⟩, Ho, How, Hoy⟩ HK
  rw [wp_bind]
  ihave Hw := (row_loop d i arg2 harg2 arg3 harg3 arg4 harg4 arg5 harg5 arg6 harg6 arg7 harg7 arg8 arg9 arg10 arg11 v2 c0 c1 t1 g) $$ [Hb Ho]
  · isplitl [Hb] <;> iassumption
  iapply (wp_wand frame _ _) $$ Hw
  iintro %u ⟨Hb, Ho⟩
  ispecialize HK $$ [Hb Hv Hx]
  · isplitl [Hb]
    · iexact Hb
    · isplitl [Hv] <;> iassumption
  iapply HK
  isplitl [Ho]
  · iexact Ho
  · isplitl [How] <;> iassumption

/-- The offsets that the kernel computes, by the tile's number. -/
theorem off_eq (i : grid0.Coords) (k : ℕ) {r : ℕ} : ![48 * (i 1).val + 24 * (i 0).val + k, r, 0] = ![24 * wid i + k, r, 0] := by
  congr 1
  unfold wid
  omega

/-- The four conditions of the kernel, as numbers. -/
theorem cond1_iff : ∀ t : Fin k0_t1_loop.trips, k0_cond1 t = 1#1 ↔ 0 < t.val := by decide +kernel
theorem cond2_iff : ∀ t : Fin k0_t1_loop.trips, k0_cond2 t = 1#1 ↔ t.val + 1 < 24 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val + 1 < 24 := by decide +kernel

/-- The loop's invariant. -/
def Inv (b0 b1 : Memref sig .scVector .vmem S112x224 .f32) (o0 o1 : Memref sig .scVector .vmem S56x112 .f32) (s0 s1 r0 r1 : DmaSems sig S_)
    (O : CellTallies nD τ sig (HIx 1)) (W : Waits sig (HIx 1)) (k : ℕ) : sProp 𝕄 :=
  iprop(Transfers.MayWaits (tl d L) (default : HIx 1) O ∗ InSt d L X b0 s0 fullShare.left 0 k ∗ InSt d L X b1 s1 fullShare.right 1 k
    ∗ OutSt d L X o0 r0 0 k ∗ OutSt d L X o1 r1 1 k ∗ Owing (tl d L) O W)

set_option cleanup.letToHave false in
/-- The first part of a trip: the first half of the image pooled and its copy out started, the second half pooled. -/
theorem part3_body (i : grid0.Coords) (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 c0 c1 : BitVec 32) (t1 : Fin k0_t1_loop.trips) (O : CellTallies nD τ sig (HIx 1)) (W : Waits sig (HIx 1)) :
    Inv d i X arg4 arg5 arg6 arg7 arg8 arg9 arg10 arg11 O W t1.val
      ⊢ wp frame (wpE (defs₀ (F := F)) 𝒱₀ (tl d i) none) Set.univ (k0_part3 (F := F) i (Memref.whole main_v0_scv) (Memref.isWhole_whole _) (Memref.whole main_v1_scv) (Memref.isWhole_whole _) arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 c0 c1 t1)
        fun _ => iprop(Transfers.MayWaits (tl d i) (default : HIx 1) O ∗ InSt d i X arg4 arg8 fullShare.left 0 (t1.val + 1)
          ∗ InIdle d i X arg5 arg9 fullShare.right (wid i) (· = inBlk X (img i t1.val) 1) ∗ OutSt d i X arg6 arg10 0 (t1.val + 1)
          ∗ OutIdle d i X arg7 arg11 (wid i) (1 : Fin 2).val (img i t1.val).val (· = poolBlk (inBlk X (img i t1.val) 1)) ∗ Owing (tl d i) O W) := by
  have ht : t1.val < 24 := t1.isLt
  unfold Inv InSt
  rw [if_pos ht, if_pos ht]
  simp only [k0_part3_eq_skeleton]; unfold k0_part3_skel
  simp only [Prog.bind_assoc, Prog.bind_lift, Prog.pure_eq_ret, Prog.bind_op, Prog.bind_ret]
  iintro ⟨#Hmw, Hi0, Hi1, Ho0, Ho1, HO⟩
  iapply (wp_await_in d i X (img_div ht)) $$ [Hi0 HO]
  · isplitl [Hi0]
    · iexact Hi0
    · isplitl [HO]
      · iexact HO
      · iexact Hmw
  iintro Hi0 HO
  iapply (wp_settle d i X (h := 0) ht (cond1_iff t1)) $$ [Ho0 HO]
  · isplitl [Ho0]
    · iexact Ho0
    · isplitl [HO]
      · iexact HO
      · iexact Hmw
  iintro Ho0 HO
  iapply (wp_rows d X i (Memref.whole main_v0_scv) (Memref.isWhole_whole _) (Memref.whole main_v1_scv) (Memref.isWhole_whole _) arg4 harg4 arg5 harg5 arg6 harg6 arg7 harg7 arg8 arg9 arg10 arg11 v2 c0 c1 t1 (inBlk X (img i t1.val) 0)) $$ [Hi0 Ho0]
  · isplitl [Hi0] <;> iassumption
  iintro Hi0 Ho0
  rw [← img_val ht]
  iapply (wp_issue_out d i X (n := img i t1.val) 0 (img_div ht) (by rw [img_val ht, k0_off12_eq]; exact off_eq i _)) $$ Ho0
  iintro Ho0
  iapply (wp_refill d i X 0 (cond2_iff t1) (by rw [k0_off13_eq, add_assoc]; exact off_eq i _)) $$ Hi0
  iintro Hi0
  iapply (wp_await_in d i X (img_div ht)) $$ [Hi1 HO]
  · isplitl [Hi1]
    · iexact Hi1
    · isplitl [HO]
      · iexact HO
      · iexact Hmw
  iintro Hi1 HO
  iapply (wp_settle d i X (h := 1) ht (cond3_iff t1)) $$ [Ho1 HO]
  · isplitl [Ho1]
    · iexact Ho1
    · isplitl [HO]
      · iexact HO
      · iexact Hmw
  iintro Ho1 HO
  iapply (wp_rows d X i (Memref.whole main_v0_scv) (Memref.isWhole_whole _) (Memref.whole main_v1_scv) (Memref.isWhole_whole _) arg5 harg5 arg4 harg4 arg7 harg7 arg6 harg6 arg9 arg8 arg11 arg10 v2 c0 c1 t1 (inBlk X (img i t1.val) 1)) $$ [Hi1 Ho1]
  · isplitl [Hi1] <;> iassumption
  iintro Hi1 Ho1
  rw [wp_ret]
  imodintro
  isplitr
  · iexact Hmw
  isplitl [Hi0]
  · unfold InSt
    iexact Hi0
  isplitl [Hi1]
  · iexact Hi1
  isplitl [Ho0]
  · unfold OutSt
    iexact Ho0
  isplitl [Ho1]
  · rw [img_val ht]
    iexact Ho1
  · iexact HO

set_option cleanup.letToHave false in
/-- One trip: from the state before the image to the state before the next. -/
theorem trip_body (i : grid0.Coords) (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (v2 : BitVec 32) (t1 : Fin k0_t1_loop.trips) (O : CellTallies nD τ sig (HIx 1)) (W : Waits sig (HIx 1)) :
    Inv d i X arg4 arg5 arg6 arg7 arg8 arg9 arg10 arg11 O W t1.val
      ⊢ wp frame (wpE (defs₀ (F := F)) 𝒱₀ (tl d i) none) Set.univ (k0_t1_body (F := F) i (Memref.whole main_v0_scv) (Memref.isWhole_whole _) (Memref.whole main_v1_scv) (Memref.isWhole_whole _) arg4 harg4 arg5 harg5 arg6 harg6 arg7 harg7 arg8 arg9 arg10 arg11 v2 k0_pay18 k0_pay19 k0_pay20 k0_pay21 k0_pay22 k0_pay23 k0_pay24 k0_pay25 k0_pay26 k0_pay27 k0_pay28 k0_pay29 k0_pay30 k0_pay31 t1 ⟨⟩)
        fun _ => Inv d i X arg4 arg5 arg6 arg7 arg8 arg9 arg10 arg11 O W (t1.val + 1) := by
  have ht : t1.val < 24 := t1.isLt
  unfold k0_t1_body
  rw [wp_bind]
  refine (part3_body d X i arg4 harg4 arg5 harg5 arg6 harg6 arg7 harg7 arg8 arg9 arg10 arg11 v2 _ _ t1 O W).trans (wp_mono frame _ _ fun p => ?_)
  obtain ⟨arg12, v51⟩ := p
  simp only [Prog.bind_assoc, Prog.bind_lift, Prog.pure_eq_ret, Prog.bind_op, Prog.bind_ret]
  iintro ⟨#Hmw, Hi0, Hi1, Ho0, Ho1, HO⟩
  iapply (wp_issue_out d i X (n := img i t1.val) 1 (img_div ht) (by rw [img_val ht, k0_off23_eq]; exact off_eq i _)) $$ Ho1
  iintro Ho1
  iapply (wp_refill d i X 1 (cond4_iff t1) (by rw [k0_off24_eq, add_assoc]; exact off_eq i _)) $$ Hi1
  iintro Hi1
  rw [wp_ret]
  imodintro
  unfold Inv
  isplitr
  · iexact Hmw
  isplitl [Hi0]
  · iexact Hi0
  isplitl [Hi1]
  · iexact Hi1
  isplitl [Ho0]
  · iexact Ho0
  isplitl [Ho1]
  · unfold OutSt
    iexact Ho1
  · iexact HO

set_option cleanup.letToHave false in
/-- The whole of a tile's work: its block of the output holds the pooled input, and no copy is under way. -/
theorem tile_work (i : grid0.Coords) (arg4 : Memref sig .scVector .vmem S112x224 .f32) (harg4 : arg4.IsWhole) (arg5 : Memref sig .scVector .vmem S112x224 .f32) (harg5 : arg5.IsWhole)
    (arg6 : Memref sig .scVector .vmem S56x112 .f32) (harg6 : arg6.IsWhole) (arg7 : Memref sig .scVector .vmem S56x112 .f32) (harg7 : arg7.IsWhole)
    (arg8 arg9 arg10 arg11 : DmaSems sig S_) (O : CellTallies nD τ sig (HIx 1)) (W : Waits sig (HIx 1)) :
    (iprop(Transfers.MayWaits (tl d i) (default : HIx 1) O ∗ InIdle d i X arg4 arg8 fullShare.left (wid i) (fun _ => True)
        ∗ InIdle d i X arg5 arg9 fullShare.right (wid i) (fun _ => True)
        ∗ OutIdle d i X arg6 arg10 (wid i) 0 (24 * wid i) (fun _ => True) ∗ OutIdle d i X arg7 arg11 (wid i) 1 (24 * wid i) (fun _ => True)
        ∗ Owing (tl d i) O W) : sProp 𝕄)
      ⊢ wp frame (wpE (defs₀ (F := F)) 𝒱₀ (tl d i) none) Set.univ (cc0__pool_kernel (F := F) i (Memref.whole main_v0_scv) (Memref.isWhole_whole _) (Memref.whole main_v1_scv) (Memref.isWhole_whole _) arg4 harg4 arg5 harg5 arg6 harg6 arg7 harg7 arg8 arg9 arg10 arg11)
        fun _ => iprop(InIdle d i X arg4 arg8 fullShare.left (wid i) (fun _ => True)
        ∗ InIdle d i X arg5 arg9 fullShare.right (wid i) (fun _ => True)
        ∗ OutIdle d i X arg6 arg10 (wid i) 0 (24 * wid i + 24) (fun _ => True) ∗ OutIdle d i X arg7 arg11 (wid i) 1 (24 * wid i + 24) (fun _ => True)
        ∗ Owing (tl d i) O W) := by
  simp only [cc0__pool_kernel_eq_skeleton]; unfold cc0__pool_kernel_skel
  simp only [k0_part4_eq_skeleton]; unfold k0_part4_skel
  simp only [Prog.bind_assoc, Prog.bind_lift, Prog.pure_eq_ret, Prog.bind_op, Prog.bind_ret]
  iintro ⟨#Hmw, Hi0, Hi1, Ho0, Ho1, HO⟩
  iapply (wp_issue_in d i X (n := img i 0) 0 (img_div (by omega)) (by rw [img_val (by omega), k0_off1_eq]; exact off_eq i 0)) $$ Hi0
  iintro Hi0
  iapply (wp_issue_in d i X (n := img i 0) 1 (img_div (by omega)) (by rw [img_val (by omega), k0_off2_eq]; exact off_eq i 0)) $$ Hi1
  iintro Hi1
  iapply (Scf.wp_for_bind frame (wpE (defs₀ (F := F)) 𝒱₀ (tl d i) none) Set.univ _ _ _ k0_t1_ok () _
    (fun k _ => Inv d i X arg4 arg5 arg6 arg7 arg8 arg9 arg10 arg11 O W k)
    (fun t _ => trip_body d X i arg4 harg4 arg5 harg5 arg6 harg6 arg7 harg7 arg8 arg9 arg10 arg11 _ t O W)) $$ [Hi0 Hi1 Ho0 Ho1 HO]
  · unfold Inv InSt OutSt
    rw [if_pos (show 0 < 24 by omega), if_pos (show 0 < 24 by omega)]
    isplitr
    · iexact Hmw
    isplitl [Hi0]
    · iexact Hi0
    isplitl [Hi1]
    · iexact Hi1
    isplitl [Ho0]
    · iexact Ho0
    isplitl [Ho1]
    · iexact Ho1
    · iexact HO
  iintro %acc Hn
  ihave Hn := (show (Inv d i X arg4 arg5 arg6 arg7 arg8 arg9 arg10 arg11 O W (Scf.trips k0_t1_loop.lb k0_t1_loop.ub k0_t1_loop.st) : sProp 𝕄)
    ⊢ Inv d i X arg4 arg5 arg6 arg7 arg8 arg9 arg10 arg11 O W 24 from Entails.of_eq rfl) $$ Hn
  unfold Inv InSt OutSt
  rw [if_neg (show ¬ 24 < 24 by omega), if_neg (show ¬ 24 < 24 by omega)]
  icases Hn with ⟨-, Hi0, Hi1, Ho0, Ho1, HO⟩
  iapply (wp_await_out d i X (n := img i 23) (img_div (by omega))) $$ [Ho0 HO]
  · isplitl [Ho0]
    · iexact Ho0
    · isplitl [HO]
      · iexact HO
      · iexact Hmw
  iintro Ho0 HO
  iapply (wp_await_out d i X (n := img i 23) (img_div (by omega))) $$ [Ho1 HO]
  · isplitl [Ho1]
    · iexact Ho1
    · isplitl [HO]
      · iexact HO
      · iexact Hmw
  iintro Ho1 HO
  rw [wp_ret]
  imodintro
  rw [img_val (show 23 < 24 by omega)]
  isplitl [Hi0]
  · iexact Hi0
  isplitl [Hi1]
  · iexact Hi1
  isplitl [Ho0]
  · iexact Ho0
  isplitl [Ho1]
  · iexact Ho1
  · iexact HO

end Cert.Proof
-- ==== Proof.Task.lean ====
/-
  One vector subcore's task, from what it is handed to what it hands back: its block of the input, kept, and its block of the
  output, which ends holding the pooled input.
-/
module

public import proofs.«01_k».proof.Proof.Tile

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S768x224x224.Idx → F .f32)

/-- Four members of a finite set, taken out of a separating conjunction over it. -/
theorem bigSep_four {A : Type} [DecidableEq A] {s : Finset A} (Φ : A → sProp 𝕄) {a b c e : A} (ha : a ∈ s) (hb : b ∈ s) (hc : c ∈ s) (he : e ∈ s)
    (hba : b ≠ a) (hca : c ≠ a) (hcb : c ≠ b) (hea : e ≠ a) (heb : e ≠ b) (hec : e ≠ c) :
    bigSep s Φ = iprop(Φ a ∗ Φ b ∗ Φ c ∗ Φ e ∗ bigSep ((((s.erase a).erase b).erase c).erase e) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩),
    SparseCore.bigSep_erase' (Finset.mem_erase.mpr ⟨hec, Finset.mem_erase.mpr ⟨heb, Finset.mem_erase.mpr ⟨hea, he⟩⟩⟩)]

/-- The semaphore cell of the subcore that a semaphore operand of the kernel names. -/
abbrev cell (s : DmaSems sig S_) : GSem nD τ sig := (tl d L, .dma s.sem)

/-- The subcore's semaphores hold the kernel's four among them. -/
theorem ownSems_four :
    (ownSems0 (tl d L) : sProp 𝕄)
      = iprop(semVal (cell d L cc0_scratch4) 0 ∗ semVal (cell d L cc0_scratch5) 0 ∗ semVal (cell d L cc0_scratch6) 0 ∗ semVal (cell d L cc0_scratch7) 0
          ∗ bigSep (((((ownCells (tl d L)).erase (cell d L cc0_scratch4)).erase (cell d L cc0_scratch5)).erase (cell d L cc0_scratch6)).erase (cell d L cc0_scratch7)) fun g => semVal g 0) := by
  unfold SparseCore.Cfg.ownSems0
  have hm : ∀ s : DmaSems sig S_, (SemLoc.dma s.sem : SemLoc sig).isScoped .scVector = true → cell d L s ∈ ownCells (tl d L) := fun s h => mem_ownCells.mpr ⟨rfl, h⟩
  have hne : ∀ s s' : DmaSems sig S_, s.sem ≠ s'.sem → cell d L s ≠ cell d L s' := fun s s' h e => h (by simpa [cell] using e)
  exact bigSep_four _ (hm _ (by decide)) (hm _ (by decide)) (hm _ (by decide)) (hm _ (by decide))
    (hne _ _ (by decide)) (hne _ _ (by decide)) (hne _ _ (by decide)) (hne _ _ (by decide)) (hne _ _ (by decide)) (hne _ _ (by decide))

/-- A buffer of the subcore, among its own. -/
abbrev own (b : Ref sig .scVector) : DevRef τ sig := (Proc.scVector (cV L) (jV L)).devRef b

/-- The subcore's buffers hold the kernel's four among them. -/
theorem ownBufs_four :
    (ownBufs (tl d L) : sProp 𝕄)
      = iprop((∃ f, (tl d L).loc cc0_scratch0 ↦{fullShare} f) ∗ (∃ f, (tl d L).loc cc0_scratch1 ↦{fullShare} f)
          ∗ (∃ f, (tl d L).loc cc0_scratch2 ↦{fullShare} f) ∗ (∃ f, (tl d L).loc cc0_scratch3 ↦{fullShare} f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  unfold SparseCore.Cfg.ownBufs
  have hm : ∀ b : Ref sig .scVector, (own L b).owner = .proc (.scVector (cV L) (jV L)) → own L b ∈ ownRefs (τ := τ) (.scVector (cV L) (jV L)) := fun b h => SparseCore.Cfg.mem_ownRefs_of_owner h
  have hne : ∀ b b' : Ref sig .scVector, b ≠ b' → own L b ≠ own L b' := fun b b' h e => h (Proc.devRef_injective _ e)
  exact bigSep_four (fun b => iprop(∃ f, ((d, b) : Loc nD τ sig) ↦{fullShare} f)) (hm cc0_scratch0 rfl) (hm cc0_scratch1 rfl) (hm cc0_scratch2 rfl) (hm cc0_scratch3 rfl)
    (hne _ _ (by decide)) (hne _ _ (by decide)) (hne _ _ (by decide)) (hne _ _ (by decide)) (hne _ _ (by decide)) (hne _ _ (by decide))

/-- A whole buffer at some contents is its elements held at contents with no property. -/
theorem at_whole (b : Ref sig .scVector) :
    (At (tl d L) (Memref.whole b) fullShare (fun _ => True) : sProp 𝕄) = iprop(∃ f, (tl d L).loc b ↦{fullShare} f) := by
  unfold At
  have hs : (Memref.whole b).view.set = Finset.univ := View.set_whole _
  rw [hs]
  have h1 : (iprop(∃ f, ⌜True⌝ ∗ (tl d L).loc b ↦{fullShare} f) : sProp 𝕄) ⊢ iprop(∃ f, (tl d L).loc b ↦{fullShare} f) := by
    iintro ⟨%f, -, H⟩
    iexists f
    iexact H
  have h2 : (iprop(∃ f, (tl d L).loc b ↦{fullShare} f) : sProp 𝕄) ⊢ iprop(∃ f, ⌜True⌝ ∗ (tl d L).loc b ↦{fullShare} f) := by
    iintro ⟨%f, H⟩
    iexists f
    isplitr
    · ipureintro; trivial
    · iexact H
  exact BI.Entails.antisymm h1 h2

/-- The two halves of the tile's pooled images. -/
abbrev tileOuts (w : ℕ) : Finset S768x112x112.Idx := tileOut w 0 ∪ tileOut w 1

theorem tileOut_disjoint (w : ℕ) : Disjoint (tileOut w 0) (tileOut w 1) := by
  rw [Finset.disjoint_left]
  intro i h0 h1
  simp only [tileOut, Finset.mem_filter, Finset.mem_univ, true_and] at h0 h1
  omega

/-- What the task is handed: its block of the input, and its block of the output at anything. -/
abbrev goPay (w : ℕ) : sProp 𝕄 := iprop((xLoc d ↦[tileIn w]{fullShare} X) ∗ ∃ f, yLoc d ↦[tileOuts w]{fullShare} f)

/-- What the task hands back: its block of the input, and its block of the output pooled. -/
abbrev tdPay (w : ℕ) : sProp 𝕄 := iprop((xLoc d ↦[tileIn w]{fullShare} X) ∗ yLoc d ↦[tileOuts w]{fullShare} poolArr X)

/-- Pooled up to the tile's last image is pooled. -/
theorem pooledTo_all {w h : ℕ} {f : S768x112x112.Idx → F .f32} (hf : PooledTo X w h (24 * w + 24) f) :
    (yLoc d ↦[tileOut w h]{fullShare} f : sProp 𝕄) = yLoc d ↦[tileOut w h]{fullShare} poolArr X :=
  pointsTo_congr fun i hi => hf i hi (by
    simp only [tileOut, Finset.mem_filter, Finset.mem_univ, true_and] at hi
    omega)

/-- The tile's first image is pooled before the run: there is nothing to have pooled. -/
theorem pooledTo_none {w h : ℕ} {f : S768x112x112.Idx → F .f32} : PooledTo X w h (24 * w) f := fun i hi hn => by
  simp only [tileOut, Finset.mem_filter, Finset.mem_univ, true_and] at hi
  omega

/-- The task on a vector subcore. -/
theorem tile_body (hF : (K (F := F)).Facts) (O : CellTallies nD τ sig (HIx 1)) (W : Waits sig (HIx 1)) (hO : ∀ g, O g none = 0) :
    iprop(levAts (K (F := F)).L (K (F := F)).lev ∗ emp ∗ goPay d X (wid L)
        ∗ scopedBufs (tl d L) ∗ scopedSems0 (tl d L) ∗ owes (tl d L) O W)
      ⊢ wp frame (wpE (defs₀ (F := F)) 𝒱₀ (tl d L) none) Set.univ
          (cc0__pool_kernel L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tdPay d X (wid L) ∗ scopedBufs (tl d L) ∗ scopedSems0 (tl d L)
            ∗ ∃ W', ⌜∀ p ∈ W', p ∈ W ∨ p.2 = none⌝ ∗ owes (tl d L) O W') := by
  rw [(K (F := F)).scopedBufs_V hF d (cV L) (jV L), SparseCore.Cfg.scopedSems0_V (Val := Elt F) d (cV L) (jV L), ownSems_four, ownBufs_four]
  simp only [← at_whole]
  iintro ⟨#Hlv, -, ⟨Hx, %f, Hy⟩, ⟨H0, H1, H2, H3, Hbufs⟩, ⟨S4, S5, S6, S7, Hsems⟩, HO⟩
  ihave Hmw := (show levAts (K (F := F)).L (K (F := F)).lev ⊢ Transfers.MayWaits (tl d L) (default : HIx 1) O from
    (K (F := F)).mayWaits_none (thr := tl d L) hO) $$ Hlv
  ihave Hx := (pointsTo_share (PosShare.mem_left_op_right fullShare)).1 $$ Hx
  icases Hx with ⟨Hxl, Hxr⟩
  ihave Hy := (pointsTo_union (tileOut_disjoint (wid L))).1 $$ Hy
  icases Hy with ⟨Hy0, Hy1⟩
  ihave Hw := (tile_work d X L (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 O W) $$ [Hmw H0 H1 H2 H3 S4 S5 S6 S7 Hxl Hxr Hy0 Hy1 HO]
  · unfold InIdle OutIdle Owing
    isplitl [Hmw]
    · iexact Hmw
    isplitl [H0 S4 Hxl]
    · isplitl [H0]
      · iexact H0
      · isplitl [S4] <;> iassumption
    isplitl [H1 S5 Hxr]
    · isplitl [H1]
      · iexact H1
      · isplitl [S5] <;> iassumption
    isplitl [H2 S6 Hy0]
    · isplitl [H2]
      · iexact H2
      · isplitl [S6]
        · iexact S6
        · iexists f
          isplitr
          · ipureintro; exact pooledTo_none X
          · iexact Hy0
    isplitl [H3 S7 Hy1]
    · isplitl [H3]
      · iexact H3
      · isplitl [S7]
        · iexact S7
        · iexists f
          isplitr
          · ipureintro; exact pooledTo_none X
          · iexact Hy1
    · iexists W
      isplitr
      · ipureintro; exact fun p hp => .inl hp
      · iexact HO
  iapply (wp_wand frame _ _) $$ Hw
  iintro %u H
  unfold InIdle OutIdle Owing
  icases H with ⟨⟨H0, S4, Hxl⟩, ⟨H1, S5, Hxr⟩, ⟨H2, S6, %f0, %hf0, Hy0⟩, ⟨H3, S7, %f1, %hf1, Hy1⟩, HO⟩
  ihave Hy0 := (Entails.of_eq (pooledTo_all d X hf0)) $$ Hy0
  ihave Hy1 := (Entails.of_eq (pooledTo_all d X hf1)) $$ Hy1
  isplitl [Hxl Hxr Hy0 Hy1]
  · isplitl [Hxl Hxr]
    · iapply (pointsTo_share (PosShare.mem_left_op_right fullShare)).2 $$ [Hxl Hxr]
      isplitl [Hxl] <;> iassumption
    · iapply (pointsTo_union (tileOut_disjoint (wid L))).2 $$ [Hy0 Hy1]
      isplitl [Hy0] <;> iassumption
  isplitl [H0 H1 H2 H3 Hbufs]
  · isplitl [H0]
    · iexact H0
    isplitl [H1]
    · iexact H1
    isplitl [H2]
    · iexact H2
    isplitl [H3] <;> iassumption
  isplitl [S4 S5 S6 S7 Hsems]
  · isplitl [S4]
    · iexact S4
    isplitl [S5]
    · iexact S5
    isplitl [S6]
    · iexact S6
    isplitl [S7] <;> iassumption
  iexact HO

end Cert.Proof
-- ==== Proof.Launch.lean ====
/-
  The program's run: the input reshaped to a stack of images, the kernel's call over the thirty-two vector subcores, and the
  pooled stack reshaped to the result.
-/
module

public import proofs.«01_k».proof.Proof.Task

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within)

/-! ## The blocks of the thirty-two tasks -/

/-- The blocks of one task: the input's at `X`, the output's at `f`. -/
abbrev tilePay (d : Dev nD) (X : S768x224x224.Idx → F .f32) (f : S768x112x112.Idx → F .f32) (w : ℕ) : sProp 𝕄 :=
  iprop((xLoc d ↦[tileIn w]{fullShare} X) ∗ yLoc d ↦[tileOuts w]{fullShare} f)

/-- The task that a core and a subcore make, by number. -/
abbrev num (p : Fin 2 × Fin 16) : ℕ := 2 * p.2.val + p.1.val

theorem num_injective {p p' : Fin 2 × Fin 16} (h : num p = num p') : p = p' := by
  obtain ⟨a, b⟩ := p
  obtain ⟨a', b'⟩ := p'
  have e : 2 * b.val + a.val = 2 * b'.val + a'.val := h
  exact Prod.ext (Fin.ext (by show a.val = a'.val; omega)) (Fin.ext (by show b.val = b'.val; omega))

/-- Every number below thirty-two is a task's. -/
theorem num_surjective {n : ℕ} (h : n < 32) : ∃ p, num p = n :=
  ⟨(⟨n % 2, by omega⟩, ⟨n / 2, by omega⟩), by show 2 * (n / 2) + n % 2 = n; omega⟩

theorem mem_tileIn {w : ℕ} {i : S768x224x224.Idx} : i ∈ tileIn w ↔ (i 0).val / 24 = w := by simp [tileIn]

theorem mem_tileOuts {w : ℕ} {i : S768x112x112.Idx} : i ∈ tileOuts w ↔ (i 0).val / 24 = w := by
  have h1 : (i 1).val < 112 := (i 1).isLt
  simp only [tileOuts, tileOut, Finset.mem_union, Finset.mem_filter, Finset.mem_univ, true_and]
  omega

/-- A family of sets, of which task `w` has the elements that `g` sends to `w`, splits the whole. -/
theorem split_by {ℓ : Loc nD τ sig} (f : Buf (Elt F) ℓ) (g : Idx ℓ → ℕ) (hg : ∀ i, g i < 32) (Kt : ℕ → Finset (Idx ℓ)) (hK : ∀ w i, i ∈ Kt w ↔ g i = w) :
    (ℓ ↦{fullShare} f : sProp 𝕄) = bigSep Finset.univ fun p : Fin 2 × Fin 16 => ℓ ↦[Kt (num p)]{fullShare} f := by
  have hd : ∀ p ∈ (Finset.univ : Finset (Fin 2 × Fin 16)), ∀ p' ∈ (Finset.univ : Finset (Fin 2 × Fin 16)), p ≠ p' → Disjoint (Kt (num p)) (Kt (num p')) := by
    intro p _ p' _ hne
    rw [Finset.disjoint_left]
    intro i h h'
    exact hne (num_injective (((hK _ i).mp h).symm.trans ((hK _ i).mp h')))
  have hc : (Finset.univ : Finset (Fin 2 × Fin 16)).biUnion (fun p => Kt (num p)) = Finset.univ := by
    ext i
    obtain ⟨p, hp⟩ := num_surjective (hg i)
    simp only [Finset.mem_biUnion, Finset.mem_univ, true_and, iff_true]
    exact ⟨p, (hK _ i).mpr hp.symm⟩
  rw [← pointsTo_biUnion Finset.univ (ℓ := ℓ) (fun p => Kt (num p)) hd, hc]

/-- The two arrays whole are the thirty-two tasks' blocks, core by core. -/
theorem split_tiles (d : Dev nD) (X : S768x224x224.Idx → F .f32) (f : S768x112x112.Idx → F .f32) :
    (iprop((xLoc d ↦{fullShare} X) ∗ yLoc d ↦{fullShare} f) : sProp 𝕄)
      = bigSep Finset.univ fun c : Fin 2 => bigSep Finset.univ fun i : Fin 16 => tilePay d X f (2 * i.val + c.val) := by
  have hx : ∀ i : Idx (xLoc d), ((i : S768x224x224.Idx) 0).val / 24 < 32 := fun i => by
    have : ((i : S768x224x224.Idx) 0).val < 768 := ((i : S768x224x224.Idx) 0).isLt
    omega
  have hy : ∀ i : Idx (yLoc d), ((i : S768x112x112.Idx) 0).val / 24 < 32 := fun i => by
    have : ((i : S768x112x112.Idx) 0).val < 768 := ((i : S768x112x112.Idx) 0).isLt
    omega
  rw [split_by (ℓ := xLoc d) X _ hx tileIn (fun _ _ => mem_tileIn), split_by (ℓ := yLoc d) f _ hy tileOuts (fun _ _ => mem_tileOuts), ← bigSep_sep', bigSep_univ_prod]

/-! ## The call's payloads -/

variable (m : (ℓ : Loc nD τ sig) → Buf (Elt F) ℓ) (ρ : Dev nD → PrngReg)

abbrev aLoc (d : Dev nD) : Loc nD τ sig := (SparseCore.T d).loc main_arg0
abbrev oLoc (d : Dev nD) : Loc nD τ sig := (SparseCore.T d).loc main_v2

/-- The stack of images: the input at the kernel's shape. -/
def stack (a : S8x96x224x224.Idx → F .f32) : S768x224x224.Idx → F .f32 := shapeCast S768x224x224 a shapeCasts_S8x96x224x224_S768x224x224

/-- The result: the pooled stack at the result's shape. -/
def result (a : S8x96x224x224.Idx → F .f32) : S8x96x112x112.Idx → F .f32 := shapeCast S8x96x112x112 (poolArr (stack a)) shapeCasts_S768x112x112_S8x96x112x112

/-- The stack at the launch memory. -/
abbrev X₀ (d : Dev nD) : S768x224x224.Idx → F .f32 := stack (m (aLoc d))

/-- What the call hands to a core and its tasks, and what comes back. -/
def P : (K (F := F)).Pay (nD := nD) (Val := Elt F) (Name := ℕ) (U := UU) where
  st := fun _ d c => bigSep Finset.univ fun i : Fin 16 => tilePay d (X₀ m d) (m (yLoc d)) (2 * i.val + c.val)
  dn := fun _ d c => bigSep Finset.univ fun i : Fin 16 => tilePay d (X₀ m d) (poolArr (X₀ m d)) (2 * i.val + c.val)
  go := fun _ d c i => tilePay d (X₀ m d) (m (yLoc d)) (2 * i.val + c.val)
  td := fun _ d c i => tilePay d (X₀ m d) (poolArr (X₀ m d)) (2 * i.val + c.val)
  x := fun _ _ => iprop(emp)

instance P_storable : (P (F := F) m).IsStorable where
  st _ d c := (inferInstance : BI.Storable (upEmb : UEmb _ 𝕄) (bigSep Finset.univ fun i : Fin 16 => tilePay d (X₀ m d) (m (yLoc d)) (2 * i.val + c.val)))
  dn _ d c := (inferInstance : BI.Storable (upEmb : UEmb _ 𝕄) (bigSep Finset.univ fun i : Fin 16 => tilePay d (X₀ m d) (poolArr (X₀ m d)) (2 * i.val + c.val)))
  go _ d c i := (inferInstance : BI.Storable (upEmb : UEmb _ 𝕄) (tilePay d (X₀ m d) (m (yLoc d)) (2 * i.val + c.val)))
  td _ d c i := (inferInstance : BI.Storable (upEmb : UEmb _ 𝕄) (tilePay d (X₀ m d) (poolArr (X₀ m d)) (2 * i.val + c.val)))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pool_kernel (coordsV c s)
            (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) ⟨⟩ c s := rfl

/-- The task as the launch asks for it. -/
theorem tile_task (hF : (K (F := F)).Facts) (d : Dev nD) (L : grid0.Coords) (O : CellTallies nD τ sig (HIx 1)) (W : Waits sig (HIx 1)) (hO : ∀ g, O g none = 0) {q : Fin 1} :
    iprop(levAts (K (F := F)).L (K (F := F)).lev ∗ emp ∗ tilePay d (X₀ m d) (m (yLoc d)) (wid L)
        ∗ scopedBufs (tl d L) ∗ scopedSems0 (tl d L) ∗ owes (tl d L) O W)
      ⊢ wp frame (wpE (defs₀ (F := F)) 𝒱₀ (tl d L) none) Set.univ
          (cc0__pool_kernel L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tilePay d (X₀ m d) (poolArr (X₀ m d)) (wid L) ∗ scopedBufs (tl d L) ∗ scopedSems0 (tl d L)
            ∗ ∃ W', ⌜∀ p ∈ W', p ∈ W ∨ p.2 = none ∨ p.2 = some q⌝ ∗ owes (tl d L) O W') := by
  iintro ⟨Hlv, He, ⟨Hx, Hy⟩, Hbufs, Hsems, HO⟩
  ihave Hw := (tile_body d L (X₀ m d) hF O W hO) $$ [Hlv He Hx Hy Hbufs Hsems HO]
  · isplitl [Hlv]
    · iexact Hlv
    isplitl [He]
    · iexact He
    isplitl [Hx Hy]
    · isplitl [Hx]
      · iexact Hx
      · iexists _
        iexact Hy
    isplitl [Hbufs]
    · iexact Hbufs
    isplitl [Hsems] <;> iassumption
  iapply (wp_wand frame _ _) $$ Hw
  iintro %u ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task m hF d (coordsV ⟨_, hci.1⟩ ⟨_, hci.2⟩) O W hO

/-- A core's payload is its tasks'. -/
theorem vecSplit : (K (F := F)).VecSplit' (P m) 0 := by
  intro d c
  show (bigSep Finset.univ fun i : Fin 16 => tilePay d (X₀ m d) (m (yLoc d)) (2 * i.val + c.val)) ⊢ |={Set.univ}=> iprop(
      (bigSep Finset.univ fun i : Fin 16 => tilePay d (X₀ m d) (m (yLoc d)) (2 * i.val + c.val))
      ∗ ((bigSep Finset.univ fun i : Fin 16 => tilePay d (X₀ m d) (poolArr (X₀ m d)) (2 * i.val + c.val))
          -∗ bigSep Finset.univ fun i : Fin 16 => tilePay d (X₀ m d) (poolArr (X₀ m d)) (2 * i.val + c.val)))
  iintro H
  imodintro
  isplitl [H]
  · iexact H
  iintro H
  iexact H

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's program -/

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev o' : DevRef τ sig := Proc.devRef .tc (main_v2 : Ref sig .tc)

/-- The reshape before the call, and the reshape after it. -/
abbrev opIn : HloOp τ sig (Elt F) := StableHlo.reshape main_arg0 main_v0 (rfl : (.f32 : EltTy) = .f32) shapeCasts_S8x96x224x224_S768x224x224
abbrev opOut : HloOp τ sig (Elt F) := StableHlo.reshape main_v1 main_v2 (rfl : (.f32 : EltTy) = .f32) shapeCasts_S768x112x112_S8x96x112x112

/-- The TensorCore's arrays. -/
abbrev S4 : Finset (DevRef τ sig) := {a', x', y', o'}

theorem held_S4 (d : Dev nD) (W : Valuation τ sig (Elt F)) :
    (held (SparseCore.T d) S4 W : sProp 𝕄)
      = iprop((aLoc d ↦{fullShare} W a') ∗ (xLoc d ↦{fullShare} W x') ∗ (yLoc d ↦{fullShare} W y') ∗ oLoc d ↦{fullShare} W o') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (yLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch. -/
def V0 (d : Dev nD) : Valuation τ sig (Elt F) := fun b => m (d, b)

theorem unscoped_held (d : Dev nD) : (unscopedBufs d (fun b => m ((SparseCore.T d).loc b)) : sProp 𝕄) = held (SparseCore.T d) S4 (V0 m d) := by
  rw [unscopedBufs_eq, held_S4]; rfl

/-- The arrays after the first reshape. -/
theorem held_V1 (d : Dev nD) :
    (held (SparseCore.T d) S4 ((opIn (F := F)).result (V0 m d)) : sProp 𝕄)
      = iprop((aLoc d ↦{fullShare} m (aLoc d)) ∗ (xLoc d ↦{fullShare} X₀ m d) ∗ (yLoc d ↦{fullShare} m (yLoc d)) ∗ oLoc d ↦{fullShare} m (oLoc d)) := by
  rw [held_S4, StableHlo.reshape_result, StableHlo.reshape_result_ne _ _ _ _ _ _ _ (show main_arg0 ≠ main_v0 by decide),
    StableHlo.reshape_result_ne _ _ _ _ _ _ _ (show main_v1 ≠ main_v0 by decide), StableHlo.reshape_result_ne _ _ _ _ _ _ _ (show main_v2 ≠ main_v0 by decide)]
  rfl

/-- The arrays after the call. -/
def V2 (d : Dev nD) : Valuation τ sig (Elt F) := Function.update (Function.update (V0 m d) x' (X₀ m d)) y' (poolArr (X₀ m d))

theorem V2_a (d : Dev nD) : V2 m d a' = m (aLoc d) :=
  (Function.update_of_ne (show a' ≠ y' by decide) _ _).trans (Function.update_of_ne (show a' ≠ x' by decide) _ _)
theorem V2_x (d : Dev nD) : V2 m d x' = X₀ m d :=
  (Function.update_of_ne (show x' ≠ y' by decide) _ _).trans (Function.update_self _ _ _)
theorem V2_y (d : Dev nD) : V2 m d y' = poolArr (X₀ m d) := Function.update_self _ _ _
theorem V2_o (d : Dev nD) : V2 m d o' = m (oLoc d) :=
  (Function.update_of_ne (show o' ≠ y' by decide) _ _).trans (Function.update_of_ne (show o' ≠ x' by decide) _ _)

/-- The arrays after the second reshape. -/
theorem held_V3 (d : Dev nD) :
    (held (SparseCore.T d) S4 ((opOut (F := F)).result (V2 m d)) : sProp 𝕄)
      = iprop((aLoc d ↦{fullShare} m (aLoc d)) ∗ (xLoc d ↦{fullShare} X₀ m d) ∗ (yLoc d ↦{fullShare} poolArr (X₀ m d)) ∗ oLoc d ↦{fullShare} result (m (aLoc d))) := by
  rw [held_S4, StableHlo.reshape_result_ne _ _ _ _ _ _ _ (by decide), StableHlo.reshape_result_ne _ _ _ _ _ _ _ (by decide),
    StableHlo.reshape_result_ne _ _ _ _ _ _ _ (by decide), StableHlo.reshape_result, V2_a, V2_x, V2_y]
  rfl

theorem st0_eq (d : Dev nD) : (bigSep Finset.univ fun c : Fin ((K (F := F)).nCore 0) => (P m).st 0 d c) = iprop((xLoc d ↦{fullShare} X₀ m d) ∗ yLoc d ↦{fullShare} m (yLoc d)) :=
  (split_tiles d (X₀ m d) (m (yLoc d))).symm
theorem dn0_eq (d : Dev nD) : (bigSep Finset.univ fun c : Fin ((K (F := F)).nCore 0) => (P m).dn 0 d c) = iprop((xLoc d ↦{fullShare} X₀ m d) ∗ yLoc d ↦{fullShare} poolArr (X₀ m d)) :=
  (split_tiles d (X₀ m d) (poolArr (X₀ m d))).symm

theorem hIn : (opIn (F := F)).bufs ⊆ S4 := show ({a', x'} : Finset (DevRef τ sig)) ⊆ S4 by decide
theorem hOut : (opOut (F := F)).bufs ⊆ S4 := show ({y', o'} : Finset (DevRef τ sig)) ⊆ S4 by decide

/-- What the program leaves: the argument as it was, and the result. -/
abbrev FIN (d : Dev nD) : sProp 𝕄 := iprop((aLoc d ↦{fullShare} m (aLoc d)) ∗ oLoc d ↦{fullShare} result (m (aLoc d)))

/-- The TensorCore's program on one device. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]
  imodintro
  ihave Hh := (Entails.of_eq (held_V1 (F := F) m d)) $$ Hheld
  icases Hh with ⟨Ha, Hx, Hy, Ho⟩
  iapply ((K (F := F)).wp_run (D (F := F)) 𝒱 (EH := EH) (P := P m) κ d 0) $$ [Hst Ha Hx Hy Ho Hb Hts]
  isplitr; · iexact Hctx
  isplitl [Hst]; · iexact Hst
  isplitl [Hx Hy]
  · rw [st0_eq]
    isplitl [Hx] <;> iassumption
  iintro ⟨Hst, Hdn⟩
  ihave Hdn' := (Entails.of_eq (dn0_eq m d)) $$ Hdn
  icases Hdn' with ⟨Hx, Hy⟩
  iapply (wp_hlo_within 𝒱 (SparseCore.T d) none Set.univ (op := opOut) (S := S4) hOut (V := V2 m d)) $$ [Hb Ha Hx Hy Ho]
  · isplitl [Hb]; · iexact Hb
    rw [held_S4, V2_a, V2_x, V2_y, V2_o]
    isplitl [Ha]; · iexact Ha
    isplitl [Hx]; · iexact Hx
    isplitl [Hy] <;> iassumption
  iintro ⟨Hb, Hheld⟩
  ihave Hh := (Entails.of_eq (held_V3 (F := F) m d)) $$ Hheld
  icases Hh with ⟨Ha, -, -, Ho⟩
  rw [wp_ret]; imodintro; imodintro
  isplitl [Hst]; · iexact Hst
  isplitr [Hb Hts]
  · isplitl [Ha] <;> iassumption
  isplitl [Hb] <;> iassumption

def fq (d : Dev nD) (s' : Phys nD τ sig (Elt F)) : Prop := s'.mem.mem (aLoc d) = m (aLoc d) ∧ s'.mem.mem (oLoc d) = result (m (aLoc d))

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := result (m (aLoc d)))) $$ [HSI Ho]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (aLoc c) = m (aLoc c) ∧ r.2.mem (oLoc c) = result (m (aLoc c))) ∧ r.2.sem = fun _ => 0

/-- Every run ends with the argument as it was, the result the pooled argument, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Reference.lean ====
/-
  The reference's maximum over each window, at exact numbers, is the greatest of the window's four elements, and so is the
  kernel's result.
-/
module

public import proofs.«01_k».proof.Proof.Launch
public import Idealize.ShloMosaic.Lib.Pipeline.Value

@[expose] public section

noncomputable section

namespace Cert.Proof

open Cert.KernelIdeal Cert.KernelIdeal.Gen Cert.Proof.Pool

open Idealize.ShloMosaic
open Idealize.ShloMosaic.ValueIdx (ix1 ix2 ix3 ix4)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The 2 by 2 pool of a batch of images with channels: each element the greatest of its window's four. -/
def pool4 (a : S8x96x224x224.Idx → F .f32) : S8x96x112x112.Idx → F .f32 := fun i =>
  have h2 : (i 2).val < 112 := (i 2).isLt
  have h3 : (i 3).val < 112 := (i 3).isLt
  max4 (a (ix4 (i 0) (i 1) ⟨2 * (i 2).val, by omega⟩ ⟨2 * (i 3).val, by omega⟩)) (a (ix4 (i 0) (i 1) ⟨2 * (i 2).val, by omega⟩ ⟨2 * (i 3).val + 1, by omega⟩))
    (a (ix4 (i 0) (i 1) ⟨2 * (i 2).val + 1, by omega⟩ ⟨2 * (i 3).val, by omega⟩)) (a (ix4 (i 0) (i 1) ⟨2 * (i 2).val + 1, by omega⟩ ⟨2 * (i 3).val + 1, by omega⟩))

/-- Image `c` of batch member `b` is image `96 b + c` of the stack. -/
theorem stack_apply (a : S8x96x224x224.Idx → F .f32) (b : Fin 8) (c : Fin 96) (r s : Fin 224) (n : Fin 768) (hn : n.val = 96 * b.val + c.val) :
    stack a (ix3 n r s) = a (ix4 b c r s) := by
  refine shapeCast_apply a _ _ _ ?_
  rw [Shape.rowMajor_val_three, Shape.rowMajor_val_four]
  show ((b.val * 96 + c.val) * 224 + r.val) * 224 + s.val = (n.val * 224 + r.val) * 224 + s.val
  omega

/-- The kernel's result is the pool of its argument. -/
theorem result_eq (a : S8x96x224x224.Idx → F .f32) : result a = pool4 a := by
  funext i
  have h0 : (i 0).val < 8 := (i 0).isLt
  have h1 : (i 1).val < 96 := (i 1).isLt
  let n : Fin 768 := ⟨96 * (i 0).val + (i 1).val, by omega⟩
  have e : result a i = poolArr (stack a) (ix3 n (i 2) (i 3)) := by
    refine shapeCast_apply _ _ _ _ ?_
    rw [Shape.rowMajor_val_three, Shape.rowMajor_val_four]
    show ((96 * (i 0).val + (i 1).val) * 112 + (i 2).val) * 112 + (i 3).val = (((i 0).val * 96 + (i 1).val) * 112 + (i 2).val) * 112 + (i 3).val
    omega
  rw [e]
  show max4 (stack a (ix3 n _ _)) (stack a (ix3 n _ _)) (stack a (ix3 n _ _)) (stack a (ix3 n _ _)) = _
  rw [stack_apply a (i 0) (i 1) _ _ n rfl, stack_apply a (i 0) (i 1) _ _ n rfl, stack_apply a (i 0) (i 1) _ _ n rfl, stack_apply a (i 0) (i 1) _ _ n rfl]
  rfl

/-- The shape of one window. -/
abbrev Win : Shape := ⟨4, ![1, 1, 2, 2]⟩

/-- The window's positions, in order: across the row, then down. -/
theorem win_pos : ∀ (n : Fin Win.numel) (x : Fin 4), (Win.rowMajor.symm n x).val = (![0, 0, n.val / 2, n.val % 2] : Fin 4 → ℕ) x := by decide +kernel

/-- The reference's starting value is below every number. -/
theorem start_bot : Ideal.ofBits .f32 0xFF800000#32 = (⊥ : EReal) := by simp [Ideal.ofBits, Ideal.ieee]

/-- A maximum over each window, started below every number, is the pool. -/
theorem window_eq (a : S8x96x224x224.Idx → Ideal .f32) (v : S_.Idx → Ideal .f32) (hv : ∀ j, v j = (⊥ : EReal))
    (h : S8x96x224x224.ReduceWindows ![1, 1, 2, 2] ![1, 1, 2, 2] ![0, 0, 0, 0] ![0, 0, 0, 0] S8x96x112x112) (hu : 0 < S_.numel) :
    Host.reduceWindow (FloatOps.maximumf (F := Ideal) (φ := .f32)) ![1, 1, 2, 2] ![1, 1, 2, 2] ![0, 0, 0, 0] ![0, 0, 0, 0] a v h hu = pool4 a := by
  funext i
  have h0 : (i 0).val < 8 := (i 0).isLt
  have h1 : (i 1).val < 96 := (i 1).isLt
  have h2 : (i 2).val < 112 := (i 2).isLt
  have h3 : (i 3).val < 112 := (i 3).isLt
  let tap (n : Fin Win.numel) : Ideal .f32 :=
    a (ix4 (i 0) (i 1) ⟨2 * (i 2).val + n.val / 2, by have : n.val < 4 := n.isLt; omega⟩ ⟨2 * (i 3).val + n.val % 2, by omega⟩)
  have hf : Host.reduceWindow (FloatOps.maximumf (F := Ideal) (φ := .f32)) ![1, 1, 2, 2] ![1, 1, 2, 2] ![0, 0, 0, 0] ![0, 0, 0, 0] a v h hu i
      = (List.finRange Win.numel).foldl (fun r n => FloatOps.maximumf r (tap n)) (v (Shape.Idx.first hu)) := by
    unfold Host.reduceWindow
    refine List.foldl_ext _ _ _ fun r n _ => congrArg (FloatOps.maximumf r) ?_
    have hn : n.val < 4 := n.isLt
    have hin : ∀ x : Fin 4, (![0, 0, 0, 0] : Fin 4 → ℕ) x ≤ (i (x.cast h.1.symm)).val * (![1, 1, 2, 2] : Fin 4 → ℕ) x + (Win.rowMajor.symm n x).val
        ∧ (i (x.cast h.1.symm)).val * (![1, 1, 2, 2] : Fin 4 → ℕ) x + (Win.rowMajor.symm n x).val - (![0, 0, 0, 0] : Fin 4 → ℕ) x < S8x96x224x224.size x := by
      intro x
      rw [win_pos]
      match x with
      | 0 => exact ⟨Nat.zero_le _, show (i 0).val * 1 + 0 - 0 < 8 by omega⟩
      | 1 => exact ⟨Nat.zero_le _, show (i 1).val * 1 + 0 - 0 < 96 by omega⟩
      | 2 => exact ⟨Nat.zero_le _, show (i 2).val * 2 + n.val / 2 - 0 < 224 by omega⟩
      | 3 => exact ⟨Nat.zero_le _, show (i 3).val * 2 + n.val % 2 - 0 < 224 by omega⟩
    rw [dif_pos hin]
    refine congrArg a (funext fun x => Fin.ext ?_)
    show (i (x.cast h.1.symm)).val * (![1, 1, 2, 2] : Fin 4 → ℕ) x + (Win.rowMajor.symm n x).val - (![0, 0, 0, 0] : Fin 4 → ℕ) x = _
    rw [win_pos]
    match x with
    | 0 => show (i 0).val * 1 + 0 - 0 = (i 0).val; omega
    | 1 => show (i 1).val * 1 + 0 - 0 = (i 1).val; omega
    | 2 => show (i 2).val * 2 + n.val / 2 - 0 = 2 * (i 2).val + n.val / 2; omega
    | 3 => show (i 3).val * 2 + n.val % 2 - 0 = 2 * (i 3).val + n.val % 2; omega
  rw [hf, hv, show List.finRange Win.numel = [(0 : Fin 4), 1, 2, 3] from rfl]
  show max (max (max (max (⊥ : EReal) (tap (0 : Fin 4))) (tap (1 : Fin 4))) (tap (2 : Fin 4))) (tap (3 : Fin 4))
    = max (max (tap (0 : Fin 4)) (tap (1 : Fin 4))) (max (tap (2 : Fin 4)) (tap (3 : Fin 4)))
  rw [max_eq_right (bot_le : (⊥ : EReal) ≤ tap (0 : Fin 4)), max_assoc (max (tap (0 : Fin 4)) (tap (1 : Fin 4)))]

end Cert.Proof
-- ==== Proof.lean ====
/-
  The claims of the pooling kernel: each program runs to its end and leaves its argument unchanged and every semaphore at
  zero, and the kernel's result at exact numbers is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.SL.Sem

/-- The kernel runs, and ends with its argument unchanged and every semaphore at zero. -/
theorem frame_kernel : Cert.quiescent_Kernel := fun m ρ _ =>
  (θ_run Cert.KernelIdeal.defs _ _).mono (fun _ h => ⟨fun c => (h.1 c).1, h.2⟩) (run_main (F := Bits) m ρ)

/-- So does the kernel at exact numbers. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments, the kernel and the reference at exact numbers end with equal results: the pool of the argument. -/
theorem algebraic : Cert.algebraic_KernelIdeal_ReferenceIdeal := by
  intro m ρ m' ρ' _ hagree
  refine ⟨fun c => pool4 (F := Ideal) (m (aLoc c)),
    (θ_run Cert.KernelIdeal.defs _ _).mono (fun _ h c => ⟨((h.1 c).2).trans (result_eq _), (h.1 c).1⟩) (run_main (F := Ideal) m ρ),
    (θ_run Cert.ReferenceIdeal.defs _ _).mono (fun r h c => ⟨((h c).1).trans ?_, (h c).2⟩) (Cert.ReferenceIdeal.Value.run (F := Ideal) m' ρ')⟩
  rw [hagree c]
  exact window_eq _ _ (fun _ => start_bot) _ _

theorem claim : Cert.Claim :=
  ⟨Cert.Kernel.Gen.facts, Cert.KernelIdeal.Gen.facts, Cert.ReferenceIdeal.Gen.facts, frame_kernel, frame_kernelIdeal, frame_reference, trivial, algebraic⟩

end Cert.Proof

end
